-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ReferenceIdeal_two_clear_gates [hPre_two_clear_gates : Cert.Pre_two_clear_gates.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_two_clear_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_two_clear_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_two_clear_gates.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_ByPlaceIdeal [hPre_two_clear_gates : Cert.Pre_two_clear_gates.Facts] (m : (ℓ : Loc Cert.ByPlaceIdeal.nD Cert.ByPlaceIdeal.τ Cert.ByPlaceIdeal.sig) → Buf (Elt Ideal) ℓ) : Prop :=
  ∀ c : Dev Cert.ByPlaceIdeal.nD,
    (Cert.Pre_two_clear_gates.fn (F := Ideal) (m ((c.tc : Thread Cert.ByPlaceIdeal.nD Cert.ByPlaceIdeal.τ).loc Cert.ByPlaceIdeal.main_arg0)) (m ((c.tc : Thread Cert.ByPlaceIdeal.nD Cert.ByPlaceIdeal.τ).loc Cert.ByPlaceIdeal.main_arg1)) (m ((c.tc : Thread Cert.ByPlaceIdeal.nD Cert.ByPlaceIdeal.τ).loc Cert.ByPlaceIdeal.main_arg2)) (m ((c.tc : Thread Cert.ByPlaceIdeal.nD Cert.ByPlaceIdeal.τ).loc Cert.ByPlaceIdeal.main_arg3))).1 = (fun _ => 1#1)
    ∧ (Cert.Pre_two_clear_gates.fn (F := Ideal) (m ((c.tc : Thread Cert.ByPlaceIdeal.nD Cert.ByPlaceIdeal.τ).loc Cert.ByPlaceIdeal.main_arg0)) (m ((c.tc : Thread Cert.ByPlaceIdeal.nD Cert.ByPlaceIdeal.τ).loc Cert.ByPlaceIdeal.main_arg1)) (m ((c.tc : Thread Cert.ByPlaceIdeal.nD Cert.ByPlaceIdeal.τ).loc Cert.ByPlaceIdeal.main_arg2)) (m ((c.tc : Thread Cert.ByPlaceIdeal.nD Cert.ByPlaceIdeal.τ).loc Cert.ByPlaceIdeal.main_arg3))).2.1 = (fun _ => 1#1)
    ∧ (Cert.Pre_two_clear_gates.fn (F := Ideal) (m ((c.tc : Thread Cert.ByPlaceIdeal.nD Cert.ByPlaceIdeal.τ).loc Cert.ByPlaceIdeal.main_arg0)) (m ((c.tc : Thread Cert.ByPlaceIdeal.nD Cert.ByPlaceIdeal.τ).loc Cert.ByPlaceIdeal.main_arg1)) (m ((c.tc : Thread Cert.ByPlaceIdeal.nD Cert.ByPlaceIdeal.τ).loc Cert.ByPlaceIdeal.main_arg2)) (m ((c.tc : Thread Cert.ByPlaceIdeal.nD Cert.ByPlaceIdeal.τ).loc Cert.ByPlaceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_two_clear_gates [hReferenceIdeal : Cert.ReferenceIdeal.Facts] [hPre_two_clear_gates : Cert.Pre_two_clear_gates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_two_clear_gates m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ByPlaceIdeal [hByPlaceIdeal : Cert.ByPlaceIdeal.Facts] [hPre_two_clear_gates : Cert.Pre_two_clear_gates.Facts] : Prop :=
  ∀ (m : (ℓ : Loc Cert.ByPlaceIdeal.nD Cert.ByPlaceIdeal.τ Cert.ByPlaceIdeal.sig) → Buf (Elt Ideal) ℓ) (g : Dev Cert.ByPlaceIdeal.nD → PrngReg), Pre_ByPlaceIdeal m →
    θ_run (Cert.ByPlaceIdeal.defs (F := Ideal)) (onTc (τ := Cert.ByPlaceIdeal.τ) (Cert.ByPlaceIdeal.main (F := Ideal))) ⟨m, fun _ => 0, g⟩ (fun r => (∀ c : Dev Cert.ByPlaceIdeal.nD,
      r.2.mem ((c.tc : Thread Cert.ByPlaceIdeal.nD Cert.ByPlaceIdeal.τ).loc Cert.ByPlaceIdeal.main_arg0) = m ((c.tc : Thread Cert.ByPlaceIdeal.nD Cert.ByPlaceIdeal.τ).loc Cert.ByPlaceIdeal.main_arg0)
      ∧ r.2.mem ((c.tc : Thread Cert.ByPlaceIdeal.nD Cert.ByPlaceIdeal.τ).loc Cert.ByPlaceIdeal.main_arg1) = m ((c.tc : Thread Cert.ByPlaceIdeal.nD Cert.ByPlaceIdeal.τ).loc Cert.ByPlaceIdeal.main_arg1)
      ∧ r.2.mem ((c.tc : Thread Cert.ByPlaceIdeal.nD Cert.ByPlaceIdeal.τ).loc Cert.ByPlaceIdeal.main_arg2) = m ((c.tc : Thread Cert.ByPlaceIdeal.nD Cert.ByPlaceIdeal.τ).loc Cert.ByPlaceIdeal.main_arg2)
      ∧ r.2.mem ((c.tc : Thread Cert.ByPlaceIdeal.nD Cert.ByPlaceIdeal.τ).loc Cert.ByPlaceIdeal.main_arg3) = m ((c.tc : Thread Cert.ByPlaceIdeal.nD Cert.ByPlaceIdeal.τ).loc Cert.ByPlaceIdeal.main_arg3))
      ∧ r.2.sem = fun _ => 0)

def preserves_Kernel_KernelIdeal : Prop :=
  IdealRules.named_const.Statement Cert.KernelIdeal.κ "neg" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 1024]⟩ ⟨2, ![1024, 1024]⟩ (Layout.meshBlock [2, 2, 4] ![[1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4]⟩ ⟨2, ![1024, 8]⟩ (Layout.meshBlock [2, 2, 4] ![[], [1]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![4, 1024, 2048]⟩ ⟨3, ![8, 1024, 2048]⟩ (Layout.meshBlock [2, 2, 4] ![[1], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![4, 2048, 1024]⟩ ⟨3, ![8, 2048, 1024]⟩ (Layout.meshBlock [2, 2, 4] ![[1], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 1024]⟩ ⟨2, ![1024, 1024]⟩ (Layout.meshBlock [2, 2, 4] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v116) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def algebraic_ReferenceIdeal_ByPlaceIdeal_pre_two_clear_gates [hReferenceIdeal : Cert.ReferenceIdeal.Facts] [hByPlaceIdeal : Cert.ByPlaceIdeal.Facts] [hPre_two_clear_gates : Cert.Pre_two_clear_gates.Facts] : Prop :=
  ∀ (m : (ℓ : Loc Cert.ReferenceIdeal.nD Cert.ReferenceIdeal.τ Cert.ReferenceIdeal.sig) → Buf (Elt Ideal) ℓ) (g : Dev Cert.ReferenceIdeal.nD → PrngReg)
    (m' : (ℓ : Loc Cert.ByPlaceIdeal.nD Cert.ByPlaceIdeal.τ Cert.ByPlaceIdeal.sig) → Buf (Elt Ideal) ℓ) (g' : Dev Cert.ByPlaceIdeal.nD → PrngReg), Pre_ReferenceIdeal_two_clear_gates m →
    (∀ c : Dev Cert.ReferenceIdeal.nD,
      m' ((c.tc : Thread Cert.ByPlaceIdeal.nD Cert.ByPlaceIdeal.τ).loc Cert.ByPlaceIdeal.main_arg0) = m ((c.tc : Thread Cert.ReferenceIdeal.nD Cert.ReferenceIdeal.τ).loc Cert.ReferenceIdeal.main_arg0)
      ∧ m' ((c.tc : Thread Cert.ByPlaceIdeal.nD Cert.ByPlaceIdeal.τ).loc Cert.ByPlaceIdeal.main_arg1) = m ((c.tc : Thread Cert.ReferenceIdeal.nD Cert.ReferenceIdeal.τ).loc Cert.ReferenceIdeal.main_arg1)
      ∧ m' ((c.tc : Thread Cert.ByPlaceIdeal.nD Cert.ByPlaceIdeal.τ).loc Cert.ByPlaceIdeal.main_arg2) = m ((c.tc : Thread Cert.ReferenceIdeal.nD Cert.ReferenceIdeal.τ).loc Cert.ReferenceIdeal.main_arg2)
      ∧ m' ((c.tc : Thread Cert.ByPlaceIdeal.nD Cert.ByPlaceIdeal.τ).loc Cert.ByPlaceIdeal.main_arg3) = m ((c.tc : Thread Cert.ReferenceIdeal.nD Cert.ReferenceIdeal.τ).loc Cert.ReferenceIdeal.main_arg3)) →
    ∃ (v0 : (c : Dev Cert.ReferenceIdeal.nD) → Buf (Elt Ideal) ((c.tc : Thread Cert.ReferenceIdeal.nD Cert.ReferenceIdeal.τ).loc Cert.ReferenceIdeal.main_v116)),
      θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ θ_run (Cert.ByPlaceIdeal.defs (F := Ideal)) (onTc (τ := Cert.ByPlaceIdeal.τ) (Cert.ByPlaceIdeal.main (F := Ideal))) ⟨m', fun _ => 0, g'⟩ (fun r => ∀ c : Dev Cert.ByPlaceIdeal.nD,
          r.2.mem ((c.tc : Thread Cert.ByPlaceIdeal.nD Cert.ByPlaceIdeal.τ).loc Cert.ByPlaceIdeal.main_v202) = v0 c
          ∧ r.2.mem ((c.tc : Thread Cert.ByPlaceIdeal.nD Cert.ByPlaceIdeal.τ).loc Cert.ByPlaceIdeal.main_arg0) = m' ((c.tc : Thread Cert.ByPlaceIdeal.nD Cert.ByPlaceIdeal.τ).loc Cert.ByPlaceIdeal.main_arg0)
          ∧ r.2.mem ((c.tc : Thread Cert.ByPlaceIdeal.nD Cert.ByPlaceIdeal.τ).loc Cert.ByPlaceIdeal.main_arg1) = m' ((c.tc : Thread Cert.ByPlaceIdeal.nD Cert.ByPlaceIdeal.τ).loc Cert.ByPlaceIdeal.main_arg1)
          ∧ r.2.mem ((c.tc : Thread Cert.ByPlaceIdeal.nD Cert.ByPlaceIdeal.τ).loc Cert.ByPlaceIdeal.main_arg2) = m' ((c.tc : Thread Cert.ByPlaceIdeal.nD Cert.ByPlaceIdeal.τ).loc Cert.ByPlaceIdeal.main_arg2)
          ∧ r.2.mem ((c.tc : Thread Cert.ByPlaceIdeal.nD Cert.ByPlaceIdeal.τ).loc Cert.ByPlaceIdeal.main_arg3) = m' ((c.tc : Thread Cert.ByPlaceIdeal.nD Cert.ByPlaceIdeal.τ).loc Cert.ByPlaceIdeal.main_arg3))

def Claim : Prop :=
  ∃ (hKernel : Cert.Kernel.Facts) (hKernelIdeal : Cert.KernelIdeal.Facts) (hReferenceIdeal : Cert.ReferenceIdeal.Facts) (hByPlaceIdeal : Cert.ByPlaceIdeal.Facts) (hPre_two_clear_gates : Cert.Pre_two_clear_gates.Facts),
    quiescent_Kernel (hKernel := hKernel)
    ∧ quiescent_KernelIdeal (hKernelIdeal := hKernelIdeal)
    ∧ quiescent_ReferenceIdeal (hReferenceIdeal := hReferenceIdeal)
    ∧ quiescent_ReferenceIdeal_pre_two_clear_gates (hReferenceIdeal := hReferenceIdeal) (hPre_two_clear_gates := hPre_two_clear_gates)
    ∧ quiescent_ByPlaceIdeal (hByPlaceIdeal := hByPlaceIdeal) (hPre_two_clear_gates := hPre_two_clear_gates)
    ∧ preserves_Kernel_KernelIdeal
    ∧ algebraic_KernelIdeal_ReferenceIdeal (hKernelIdeal := hKernelIdeal) (hReferenceIdeal := hReferenceIdeal)
    ∧ algebraic_ReferenceIdeal_ByPlaceIdeal_pre_two_clear_gates (hReferenceIdeal := hReferenceIdeal) (hByPlaceIdeal := hByPlaceIdeal) (hPre_two_clear_gates := hPre_two_clear_gates)
-- ==== Pre_two_clear_gates.lean ====
abbrev S1024x1024 : Shape := ⟨2, ![1024, 1024]⟩
abbrev S1024x8 : Shape := ⟨2, ![1024, 8]⟩
abbrev S8x1024x2048 : Shape := ⟨3, ![8, 1024, 2048]⟩
abbrev S8x2048x1024 : Shape := ⟨3, ![8, 2048, 1024]⟩
abbrev S_ : Shape := ⟨0, ![]⟩
abbrev S1024 : Shape := ⟨1, ![1024]⟩
abbrev S1024x1 : Shape := ⟨2, ![1024, 1]⟩

class Facts : Prop where
  reducesTo_S1024x8_S1024_d1 : S1024x8.ReducesTo [1] S1024
  h_S_ : 0 < S_.numel
  bcast_S1024_S1024x1_0 : S1024.BroadcastsInDim S1024x1 (![0] : Fin 1 → Fin S1024x1.rank)
  bcast_S1024x1_S1024x8_0_1 : S1024x1.BroadcastsInDim S1024x8 (![0, 1] : Fin 2 → Fin S1024x8.rank)
  bcast_S_S1024x8 : S_.BroadcastsInDim S1024x8 (![] : Fin 0 → Fin S1024x8.rank)
  bcast_S_S1024x1 : S_.BroadcastsInDim S1024x1 (![] : Fin 0 → Fin S1024x1.rank)
  bcast_S_S1024 : S_.BroadcastsInDim S1024 (![] : Fin 0 → Fin S1024.rank)
  dot_S1024x1024_S1024x8_S1024x8_1_0_0_1_n_n_wf : DotDims.WF S1024x1024 S1024x8 S1024x8 [1] [0] [0] [1] [] []

variable [Facts]

def dot_S1024x1024_S1024x8_S1024x8_1_0_0_1_n_n : DotDims S1024x1024 S1024x8 S1024x8 where
  lhsContracting := [1]
  rhsContracting := [0]
  lhsNonContracting := [0]
  rhsNonContracting := [1]
  lhsBatch := []
  rhsBatch := []
  wf := dot_S1024x1024_S1024x8_S1024x8_1_0_0_1_n_n_wf
def fn_where {F : FTy → Type} [FloatOps F] (arg0 : IVec S1024x8 1) (arg1 : FVec F S1024x8 .f32) (arg2 : FVec F S_ .f32) : FVec F S1024x8 .f32 :=
  let v0 : FVec F S_ .f32 := id arg2
  let v1 : FVec F S1024x8 .f32 := broadcastInDim S1024x8 ![] bcast_S_S1024x8 v0
  let v2 : FVec F S1024x8 .f32 := select arg0 arg1 v1
  v2

def fn_where_0 {F : FTy → Type} [FloatOps F] (arg0 : IVec S1024x8 1) (arg1 : IVec S_ 32) (arg2 : IVec S_ 32) : IVec S1024x8 32 :=
  let v0 : IVec S1024x8 32 := broadcastInDim S1024x8 ![] bcast_S_S1024x8 arg1
  let v1 : IVec S1024x8 32 := broadcastInDim S1024x8 ![] bcast_S_S1024x8 arg2
  let v2 : IVec S1024x8 32 := select arg0 v0 v1
  v2

def fn_part1 {F : FTy → Type} [FloatOps F] (main_v0 : FVec F S1024x8 .f32) (main_v7 : FVec F S1024x1 .f32) (main_v9 : IVec S1024x1 1) (main_v14 : IVec S1024 32) (main_v15 : IVec S1024 32) : IVec S1024x1 1 × IVec S1024 1 × IVec S1024 1 :=
  let main_v16 : IVec S1024 1 := cmpi .eq main_v14 main_v15
  let main_v17 : FVec F S1024x8 .f32 := broadcastInDim S1024x8 ![0, 1] bcast_S1024x1_S1024x8_0_1 main_v7
  let main_v18 : IVec S1024x8 1 := cmpf .oeq main_v0 main_v17
  let main_c_6 : IVec S_ 32 := constantI S_ 32 1#32
  let main_c_7 : IVec S_ 32 := constantI S_ 32 0#32
  let main_v19 : IVec S1024x8 32 := fn_where_0 (F := F) main_v18 main_c_6 main_c_7
  let main_v20 : IVec S1024x8 32 := id main_v19
  let main_c_8 : IVec S_ 32 := constantI S_ 32 0#32
  let main_v21 : IVec S1024 32 := (fun x v => Host.reduce IntOp.addi x v reducesTo_S1024x8_S1024_d1 h_S_) main_v20 main_c_8
  let main_c_9 : IVec S_ 32 := constantI S_ 32 1#32
  let main_v22 : IVec S1024 32 := broadcastInDim S1024 ![] bcast_S_S1024 main_c_9
  let main_v23 : IVec S1024 1 := cmpi .eq main_v21 main_v22
  (main_v9, main_v16, main_v23)

def fn {F : FTy → Type} [FloatOps F] (main_arg0 : FVec F S1024x1024 .f32) (main_arg1 : FVec F S1024x8 .f32) (main_arg2 : FVec F S8x1024x2048 .f32) (main_arg3 : FVec F S8x2048x1024 .f32) : IVec S1024x1 1 × IVec S1024 1 × IVec S1024 1 :=
  let main_v0 : FVec F S1024x8 .f32 := (fun l r => Host.dotGeneral dot_S1024x1024_S1024x8_S1024x8_1_0_0_1_n_n none l r) main_arg0 main_arg1
  let main_cst : FVec F S_ .f32 := constant S_ .f32 0xFF800000#32
  let main_v1 : FVec F S1024 .f32 := (fun x v => Host.reduce FloatOps.maximumf x v reducesTo_S1024x8_S1024_d1 h_S_) main_v0 main_cst
  let main_v2 : FVec F S1024x1 .f32 := broadcastInDim S1024x1 ![0] bcast_S1024_S1024x1_0 main_v1
  let main_v3 : FVec F S1024x8 .f32 := broadcastInDim S1024x8 ![0, 1] bcast_S1024x1_S1024x8_0_1 main_v2
  let main_v4 : IVec S1024x8 1 := cmpf .olt main_v0 main_v3
  let main_cst_0 : FVec F S_ .f32 := constant S_ .f32 0xFF800000#32
  let main_v5 : FVec F S1024x8 .f32 := fn_where (F := F) main_v4 main_v0 main_cst_0
  let main_cst_1 : FVec F S_ .f32 := constant S_ .f32 0xFF800000#32
  let main_v6 : FVec F S1024 .f32 := (fun x v => Host.reduce FloatOps.maximumf x v reducesTo_S1024x8_S1024_d1 h_S_) main_v5 main_cst_1
  let main_v7 : FVec F S1024x1 .f32 := broadcastInDim S1024x1 ![0] bcast_S1024_S1024x1_0 main_v6
  let main_cst_2 : FVec F S_ .f32 := constant S_ .f32 0x7F800000#32
  let main_v8 : FVec F S1024x1 .f32 := broadcastInDim S1024x1 ![] bcast_S_S1024x1 main_cst_2
  let main_v9 : IVec S1024x1 1 := cmpf .olt main_v2 main_v8
  let main_v10 : FVec F S1024x8 .f32 := broadcastInDim S1024x8 ![0, 1] bcast_S1024x1_S1024x8_0_1 main_v2
  let main_v11 : IVec S1024x8 1 := cmpf .oeq main_v0 main_v10
  let main_c : IVec S_ 32 := constantI S_ 32 1#32
  let main_c_3 : IVec S_ 32 := constantI S_ 32 0#32
  let main_v12 : IVec S1024x8 32 := fn_where_0 (F := F) main_v11 main_c main_c_3
  let main_v13 : IVec S1024x8 32 := id main_v12
  let main_c_4 : IVec S_ 32 := constantI S_ 32 0#32
  let main_v14 : IVec S1024 32 := (fun x v => Host.reduce IntOp.addi x v reducesTo_S1024x8_S1024_d1 h_S_) main_v13 main_c_4
  let main_c_5 : IVec S_ 32 := constantI S_ 32 1#32
  let main_v15 : IVec S1024 32 := broadcastInDim S1024 ![] bcast_S_S1024 main_c_5
  fn_part1 (F := F) main_v0 main_v7 main_v9 main_v14 main_v15
-- ==== Kernel.lean ====
abbrev S512x1024 : Shape := ⟨2, ![512, 1024]⟩
abbrev S1024x4 : Shape := ⟨2, ![1024, 4]⟩
abbrev S4x1024x2048 : Shape := ⟨3, ![4, 1024, 2048]⟩
abbrev S4x2048x1024 : Shape := ⟨3, ![4, 2048, 1024]⟩
abbrev S1024x1024 : Shape := ⟨2, ![1024, 1024]⟩
abbrev S512x4 : Shape := ⟨2, ![512, 4]⟩
abbrev S1024x2048 : Shape := ⟨2, ![1024, 2048]⟩
abbrev S2048x1024 : Shape := ⟨2, ![2048, 1024]⟩
abbrev S4 : Shape := ⟨1, ![4]⟩
abbrev S2 : Shape := ⟨1, ![2]⟩
abbrev S1 : Shape := ⟨1, ![1]⟩
abbrev S_ : Shape := ⟨0, ![]⟩
abbrev S1x1024x2048 : Shape := ⟨3, ![1, 1024, 2048]⟩
abbrev S1x2048x1024 : Shape := ⟨3, ![1, 2048, 1024]⟩
abbrev S512x8 : Shape := ⟨2, ![512, 8]⟩
abbrev S512 : Shape := ⟨1, ![512]⟩
abbrev S512x1 : Shape := ⟨2, ![512, 1]⟩
abbrev S512x2048 : Shape := ⟨2, ![512, 2048]⟩

abbrev nBuf : Space → Nat
  | .hbm => 5
  | .vmem => 12
  | .smem => 0
  | _ => 0

abbrev bufTy : (tb : Table) → Fin (tcTables nBuf tb) → BufTy
  | .hbm, ⟨0, _⟩ => ⟨S512x1024, .f32⟩
  | .hbm, ⟨1, _⟩ => ⟨S1024x4, .f32⟩
  | .hbm, ⟨2, _⟩ => ⟨S4x1024x2048, .f32⟩
  | .hbm, ⟨3, _⟩ => ⟨S4x2048x1024, .f32⟩
  | .hbm, ⟨4, _⟩ => ⟨S512x1024, .f32⟩
  | .local _ .vmem, ⟨0, _⟩ => ⟨S512x1024, .f32⟩
  | .local _ .vmem, ⟨1, _⟩ => ⟨S1024x4, .f32⟩
  | .local _ .vmem, ⟨2, _⟩ => ⟨S512x1024, .f32⟩
  | .local _ .vmem, ⟨3, _⟩ => ⟨S1024x1024, .bf16⟩
  | .local _ .vmem, ⟨4, _⟩ => ⟨S1024x4, .f32⟩
  | .local _ .vmem, ⟨5, _⟩ => ⟨S1024x4, .f32⟩
  | .local _ .vmem, ⟨6, _⟩ => ⟨S512x4, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S1024x2048, .f32⟩
  | .local _ .vmem, ⟨11, _⟩ => ⟨S2048x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_12 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_11 : BitVec 32 := 8#32
  let v19 : BitVec 32 := Scalar.muli v2 c8_i32_11
  let v20 : BitVec 32 := Scalar.addi c0_i32_12 v19
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_13 : BitVec 32 := 4#32
  let v21 : BitVec 32 := Scalar.muli v9 c4_i32_13
  let v22 : BitVec 32 := Scalar.addi v20 v21
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v23 : BitVec 32 := Scalar.muli v8 c1_i32_14
  let v24 : BitVec 32 := Scalar.addi v22 v23
  v24.toNat
def k0_off1 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v25 : BitVec 32 := Scalar.muli v5 c512_i32
  let v31 : Index := Scalar.indexCast v25
  let c0_19 : Index := 0#32
  ![v31.toNat, 0]
def k0_off2 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v25 : BitVec 32 := Scalar.muli v5 c512_i32
  let c0_i32_26 : BitVec 32 := 0#32
  ![v25.toNat, 0]
def k0_dev2 (d0 : Dev nD) : Nat :=
  let c0_i32_23 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_22 : BitVec 32 := 8#32
  let v35 : BitVec 32 := Scalar.muli v2 c8_i32_22
  let v36 : BitVec 32 := Scalar.addi c0_i32_23 v35
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_24 : BitVec 32 := 4#32
  let v37 : BitVec 32 := Scalar.muli v9 c4_i32_24
  let v38 : BitVec 32 := Scalar.addi v36 v37
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v39 : BitVec 32 := Scalar.muli v8 c1_i32_25
  let v40 : BitVec 32 := Scalar.addi v38 v39
  v40.toNat
def k0_dev3 (d0 : Dev nD) : Nat :=
  let c0_i32_31 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_30 : BitVec 32 := 8#32
  let v47 : BitVec 32 := Scalar.muli v2 c8_i32_30
  let v48 : BitVec 32 := Scalar.addi c0_i32_31 v47
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_32 : BitVec 32 := 4#32
  let v49 : BitVec 32 := Scalar.muli v9 c4_i32_32
  let v50 : BitVec 32 := Scalar.addi v48 v49
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_33 : BitVec 32 := 1#32
  let v51 : BitVec 32 := Scalar.muli v8 c1_i32_33
  let v52 : BitVec 32 := Scalar.addi v50 v51
  v52.toNat
def k0_off3 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v25 : BitVec 32 := Scalar.muli v5 c512_i32
  let v110 : Index := Scalar.indexCast v25
  let c0_58 : Index := 0#32
  ![v110.toNat, 0]
def k0_off4 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c512_i32 : BitVec 32 := 512#32
  let v25 : BitVec 32 := Scalar.muli v5 c512_i32
  let c0_i32_67 : BitVec 32 := 0#32
  ![v25.toNat, 0]
def k0_dev4 (d0 : Dev nD) : Nat :=
  let c0_i32_64 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_63 : BitVec 32 := 8#32
  let v117 : BitVec 32 := Scalar.muli v2 c8_i32_63
  let v118 : BitVec 32 := Scalar.addi c0_i32_64 v117
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_65 : BitVec 32 := 4#32
  let v119 : BitVec 32 := Scalar.muli v9 c4_i32_65
  let v120 : BitVec 32 := Scalar.addi v118 v119
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_66 : BitVec 32 := 1#32
  let v121 : BitVec 32 := Scalar.muli v8 c1_i32_66
  let v122 : BitVec 32 := Scalar.addi v120 v121
  v122.toNat
def k0_off5 (d0 : Dev nD) : Fin 2 → Nat :=
  let c1_i32_16 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v26 : BitVec 32 := Scalar.subi c1_i32_16 v5
  let c512_i32_17 : BitVec 32 := 512#32
  let v27 : BitVec 32 := Scalar.muli v26 c512_i32_17
  let v180 : Index := Scalar.indexCast v27
  let c0_110 : Index := 0#32
  ![v180.toNat, 0]
def k0_off6 (d0 : Dev nD) : Fin 2 → Nat :=
  let c1_i32_16 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v26 : BitVec 32 := Scalar.subi c1_i32_16 v5
  let c512_i32_17 : BitVec 32 := 512#32
  let v27 : BitVec 32 := Scalar.muli v26 c512_i32_17
  let v187 : Index := Scalar.indexCast v27
  let c0_114 : Index := 0#32
  ![v187.toNat, 0]
def k0_dev5 (d0 : Dev nD) : Nat :=
  let c0_i32_216 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_215 : BitVec 32 := 8#32
  let v331 : BitVec 32 := Scalar.muli v2 c8_i32_215
  let v332 : BitVec 32 := Scalar.addi c0_i32_216 v331
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_217 : BitVec 32 := 4#32
  let v333 : BitVec 32 := Scalar.muli v9 c4_i32_217
  let v334 : BitVec 32 := Scalar.addi v332 v333
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_218 : BitVec 32 := 1#32
  let v335 : BitVec 32 := Scalar.muli v8 c1_i32_218
  let v336 : BitVec 32 := Scalar.addi v334 v335
  v336.toNat
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== KernelIdeal.lean ====
variable {F : FTy → Type} [FloatOps F] [Named F]
def κ : String → Option EReal := fun
  | "neg" => some ⊥
  | _ => none
-- ==== ReferenceIdeal.lean ====
abbrev S1024x1024 : Shape := ⟨2, ![1024, 1024]⟩
abbrev S1024x8 : Shape := ⟨2, ![1024, 8]⟩
abbrev S8x1024x2048 : Shape := ⟨3, ![8, 1024, 2048]⟩
abbrev S8x2048x1024 : Shape := ⟨3, ![8, 2048, 1024]⟩
abbrev S_ : Shape := ⟨0, ![]⟩
abbrev S1024 : Shape := ⟨1, ![1024]⟩
abbrev S1024x1 : Shape := ⟨2, ![1024, 1]⟩
abbrev S1x1024x2048 : Shape := ⟨3, ![1, 1024, 2048]⟩
abbrev S1024x2048 : Shape := ⟨2, ![1024, 2048]⟩
abbrev S1x2048x1024 : Shape := ⟨3, ![1, 2048, 1024]⟩
abbrev S2048x1024 : Shape := ⟨2, ![2048, 1024]⟩

abbrev nBuf : Space → Nat
  | .hbm => 143
  | .vmem => 0
  | .smem => 0
  | _ => 0

abbrev hbmTy0_0 (i : Nat) : BufTy := match i % 128 with
  | 0 => ⟨S1024x1024, .f32⟩
  | 1 => ⟨S1024x8, .f32⟩
  | 2 => ⟨S8x1024x2048, .f32⟩
  | 3 => ⟨S8x2048x1024, .f32⟩
  | 4 => ⟨S1024x8, .f32⟩
  | 5 => ⟨S_, .f32⟩
  | 6 => ⟨S1024, .f32⟩
  | 7 => ⟨S1024x1, .f32⟩
  | 8 => ⟨S1024x8, .f32⟩
  | 9 => ⟨S1024x8, .i1⟩
  | 10 => ⟨S_, .f32⟩
  | 11 => ⟨S_, .f32⟩
  | 12 => ⟨S1024x8, .f32⟩
  | 13 => ⟨S1024x8, .f32⟩
  | 14 => ⟨S_, .f32⟩
  | 15 => ⟨S1024, .f32⟩
  | 16 => ⟨S1024x1, .f32⟩
  | 17 => ⟨S1024x1, .f32⟩
  | 18 => ⟨S1024x1, .f32⟩
  | 19 => ⟨S1024x8, .f32⟩
  | 20 => ⟨S1024x8, .i1⟩
  | 21 => ⟨S1024x8, .f32⟩
  | 22 => ⟨S1024x8, .i1⟩
  | 23 => ⟨S_, .f32⟩
  | 24 => ⟨S_, .f32⟩
  | 25 => ⟨S1024x8, .f32⟩
  | 26 => ⟨S1024x8, .f32⟩
  | 27 => ⟨S1024x8, .f32⟩
  | 28 => ⟨S_, .f32⟩
  | 29 => ⟨S_, .f32⟩
  | 30 => ⟨S1024x8, .f32⟩
  | 31 => ⟨S1024x8, .f32⟩
  | 32 => ⟨S_, .f32⟩
  | 33 => ⟨S1024x1, .f32⟩
  | 34 => ⟨S1024x1, .f32⟩
  | 35 => ⟨S1024x8, .f32⟩
  | 36 => ⟨S1024x8, .f32⟩
  | 37 => ⟨S_, .f32⟩
  | 38 => ⟨S1024x1024, .f32⟩
  | 39 => ⟨S1x1024x2048, .f32⟩
  | 40 => ⟨S1024x2048, .f32⟩
  | 41 => ⟨S1024x2048, .f32⟩
  | 42 => ⟨S_, .f32⟩
  | 43 => ⟨S1024x2048, .f32⟩
  | 44 => ⟨S1024x2048, .f32⟩
  | 45 => ⟨S1x2048x1024, .f32⟩
  | 46 => ⟨S2048x1024, .f32⟩
  | 47 => ⟨S1024x1024, .f32⟩
  | 48 => ⟨S1024x1, .f32⟩
  | 49 => ⟨S1024x1024, .f32⟩
  | 50 => ⟨S1024x1024, .f32⟩
  | 51 => ⟨S1024x1024, .f32⟩
  | 52 => ⟨S1x1024x2048, .f32⟩
  | 53 => ⟨S1024x2048, .f32⟩
  | 54 => ⟨S1024x2048, .f32⟩
  | 55 => ⟨S_, .f32⟩
  | 56 => ⟨S1024x2048, .f32⟩
  | 57 => ⟨S1024x2048, .f32⟩
  | 58 => ⟨S1x2048x1024, .f32⟩
  | 59 => ⟨S2048x1024, .f32⟩
  | 60 => ⟨S1024x1024, .f32⟩
  | 61 => ⟨S1024x1, .f32⟩
  | 62 => ⟨S1024x1024, .f32⟩
  | 63 => ⟨S1024x1024, .f32⟩
  | 64 => ⟨S1024x1024, .f32⟩
  | 65 => ⟨S1x1024x2048, .f32⟩
  | 66 => ⟨S1024x2048, .f32⟩
  | 67 => ⟨S1024x2048, .f32⟩
  | 68 => ⟨S_, .f32⟩
  | 69 => ⟨S1024x2048, .f32⟩
  | 70 => ⟨S1024x2048, .f32⟩
  | 71 => ⟨S1x2048x1024, .f32⟩
  | 72 => ⟨S2048x1024, .f32⟩
  | 73 => ⟨S1024x1024, .f32⟩
  | 74 => ⟨S1024x1, .f32⟩
  | 75 => ⟨S1024x1024, .f32⟩
  | 76 => ⟨S1024x1024, .f32⟩
  | 77 => ⟨S1024x1024, .f32⟩
  | 78 => ⟨S1x1024x2048, .f32⟩
  | 79 => ⟨S1024x2048, .f32⟩
  | 80 => ⟨S1024x2048, .f32⟩
  | 81 => ⟨S_, .f32⟩
  | 82 => ⟨S1024x2048, .f32⟩
  | 83 => ⟨S1024x2048, .f32⟩
  | 84 => ⟨S1x2048x1024, .f32⟩
  | 85 => ⟨S2048x1024, .f32⟩
  | 86 => ⟨S1024x1024, .f32⟩
  | 87 => ⟨S1024x1, .f32⟩
  | 88 => ⟨S1024x1024, .f32⟩
  | 89 => ⟨S1024x1024, .f32⟩
  | 90 => ⟨S1024x1024, .f32⟩
  | 91 => ⟨S1x1024x2048, .f32⟩
  | 92 => ⟨S1024x2048, .f32⟩
  | 93 => ⟨S1024x2048, .f32⟩
  | 94 => ⟨S_, .f32⟩
  | 95 => ⟨S1024x2048, .f32⟩
  | 96 => ⟨S1024x2048, .f32⟩
  | 97 => ⟨S1x2048x1024, .f32⟩
  | 98 => ⟨S2048x1024, .f32⟩
  | 99 => ⟨S1024x1024, .f32⟩
  | 100 => ⟨S1024x1, .f32⟩
  | 101 => ⟨S1024x1024, .f32⟩
  | 102 => ⟨S1024x1024, .f32⟩
  | 103 => ⟨S1024x1024, .f32⟩
  | 104 => ⟨S1x1024x2048, .f32⟩
  | 105 => ⟨S1024x2048, .f32⟩
  | 106 => ⟨S1024x2048, .f32⟩
  | 107 => ⟨S_, .f32⟩
  | 108 => ⟨S1024x2048, .f32⟩
  | 109 => ⟨S1024x2048, .f32⟩
  | 110 => ⟨S1x2048x1024, .f32⟩
  | 111 => ⟨S2048x1024, .f32⟩
  | 112 => ⟨S1024x1024, .f32⟩
  | 113 => ⟨S1024x1, .f32⟩
  | 114 => ⟨S1024x1024, .f32⟩
  | 115 => ⟨S1024x1024, .f32⟩
  | 116 => ⟨S1024x1024, .f32⟩
  | 117 => ⟨S1x1024x2048, .f32⟩
  | 118 => ⟨S1024x2048, .f32⟩
  | 119 => ⟨S1024x2048, .f32⟩
  | 120 => ⟨S_, .f32⟩
  | 121 => ⟨S1024x2048, .f32⟩
  | 122 => ⟨S1024x2048, .f32⟩
  | 123 => ⟨S1x2048x1024, .f32⟩
  | 124 => ⟨S2048x1024, .f32⟩
  | 125 => ⟨S1024x1024, .f32⟩
  | 126 => ⟨S1024x1, .f32⟩
  | 127 => ⟨S1024x1024, .f32⟩
  | _ => ⟨S1024x1024, .f32⟩

abbrev hbmTy0_1 (i : Nat) : BufTy := match i % 128 with
  | 0 => ⟨S1024x1024, .f32⟩
  | 1 => ⟨S1024x1024, .f32⟩
  | 2 => ⟨S1x1024x2048, .f32⟩
  | 3 => ⟨S1024x2048, .f32⟩
  | 4 => ⟨S1024x2048, .f32⟩
  | 5 => ⟨S_, .f32⟩
  | 6 => ⟨S1024x2048, .f32⟩
  | 7 => ⟨S1024x2048, .f32⟩
  | 8 => ⟨S1x2048x1024, .f32⟩
  | 9 => ⟨S2048x1024, .f32⟩
  | 10 => ⟨S1024x1024, .f32⟩
  | 11 => ⟨S1024x1, .f32⟩
  | 12 => ⟨S1024x1024, .f32⟩
  | 13 => ⟨S1024x1024, .f32⟩
  | 14 => ⟨S1024x1024, .f32⟩
  | _ => ⟨S1024x1024, .f32⟩

abbrev hbmTy (i : Nat) : BufTy := match i / 128 with
  | 0 => hbmTy0_0 i
  | 1 => hbmTy0_1 i
  | _ => ⟨S1024x1024, .f32⟩

abbrev bufTy : (tb : Table) → Fin (tcTables nBuf tb) → BufTy
  | .hbm, ⟨i, _⟩ => hbmTy i
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v14 : Ref sig .tc := ⟨.hbm, 27, rfl⟩
abbrev main_cst_3 : Ref sig .tc := ⟨.hbm, 28, rfl⟩
abbrev main_call2_v0 : Ref sig .tc := ⟨.hbm, 29, rfl⟩
abbrev main_call2_v1 : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_8 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_9 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_10 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_11 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_cst_12 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_cst_13 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩

abbrev nD : Nat := 1
abbrev τ : Topo := Topo.v7x

variable {F : FTy → Type} [FloatOps F]
-- ==== ByPlaceIdeal.lean ====
abbrev S1024x1024 : Shape := ⟨2, ![1024, 1024]⟩
abbrev S1024x8 : Shape := ⟨2, ![1024, 8]⟩
abbrev S8x1024x2048 : Shape := ⟨3, ![8, 1024, 2048]⟩
abbrev S8x2048x1024 : Shape := ⟨3, ![8, 2048, 1024]⟩
abbrev S1024x2 : Shape := ⟨2, ![1024, 2]⟩
abbrev S_ : Shape := ⟨0, ![]⟩
abbrev S1024 : Shape := ⟨1, ![1024]⟩
abbrev S1024x1 : Shape := ⟨2, ![1024, 1]⟩
abbrev S1x1024x2048 : Shape := ⟨3, ![1, 1024, 2048]⟩
abbrev S1024x2048 : Shape := ⟨2, ![1024, 2048]⟩
abbrev S1x2048x1024 : Shape := ⟨3, ![1, 2048, 1024]⟩
abbrev S2048x1024 : Shape := ⟨2, ![2048, 1024]⟩

abbrev nBuf : Space → Nat
  | .hbm => 300
  | .vmem => 0
  | .smem => 0
  | _ => 0

abbrev hbmTy0_0 (i : Nat) : BufTy := match i % 128 with
  | 0 => ⟨S1024x1024, .f32⟩
  | 1 => ⟨S1024x8, .f32⟩
  | 2 => ⟨S8x1024x2048, .f32⟩
  | 3 => ⟨S8x2048x1024, .f32⟩
  | 4 => ⟨S1024x8, .f32⟩
  | 5 => ⟨S1024x2, .f32⟩
  | 6 => ⟨S1024x2, .i32⟩
  | 7 => ⟨S_, .f32⟩
  | 8 => ⟨S1024, .f32⟩
  | 9 => ⟨S1024x1, .f32⟩
  | 10 => ⟨S1024x2, .f32⟩
  | 11 => ⟨S1024x2, .f32⟩
  | 12 => ⟨S1024x2, .f32⟩
  | 13 => ⟨S_, .f32⟩
  | 14 => ⟨S1024, .f32⟩
  | 15 => ⟨S1024x1, .f32⟩
  | 16 => ⟨S1024x2, .f32⟩
  | 17 => ⟨S1024x2, .f32⟩
  | 18 => ⟨S_, .f32⟩
  | 19 => ⟨S1024x1024, .f32⟩
  | 20 => ⟨S1x1024x2048, .f32⟩
  | 21 => ⟨S1024x2048, .f32⟩
  | 22 => ⟨S1024x2048, .f32⟩
  | 23 => ⟨S_, .f32⟩
  | 24 => ⟨S1024x2048, .f32⟩
  | 25 => ⟨S1024x2048, .f32⟩
  | 26 => ⟨S1x2048x1024, .f32⟩
  | 27 => ⟨S2048x1024, .f32⟩
  | 28 => ⟨S1024x1024, .f32⟩
  | 29 => ⟨S1024x1, .i32⟩
  | 30 => ⟨S_, .i32⟩
  | 31 => ⟨S1024x1, .i32⟩
  | 32 => ⟨S1024x1, .i1⟩
  | 33 => ⟨S1024x1, .f32⟩
  | 34 => ⟨S1024x1024, .f32⟩
  | 35 => ⟨S1024x1024, .f32⟩
  | 36 => ⟨S_, .f32⟩
  | 37 => ⟨S_, .f32⟩
  | 38 => ⟨S1024x1024, .i1⟩
  | 39 => ⟨S1024x1024, .f32⟩
  | 40 => ⟨S1024x1024, .f32⟩
  | 41 => ⟨S1024x1024, .f32⟩
  | 42 => ⟨S1024x1, .i32⟩
  | 43 => ⟨S_, .i32⟩
  | 44 => ⟨S1024x1, .i32⟩
  | 45 => ⟨S1024x1, .i1⟩
  | 46 => ⟨S1024x1, .f32⟩
  | 47 => ⟨S1024x1024, .f32⟩
  | 48 => ⟨S1024x1024, .f32⟩
  | 49 => ⟨S_, .f32⟩
  | 50 => ⟨S_, .f32⟩
  | 51 => ⟨S1024x1024, .i1⟩
  | 52 => ⟨S1024x1024, .f32⟩
  | 53 => ⟨S1024x1024, .f32⟩
  | 54 => ⟨S1024x1024, .f32⟩
  | 55 => ⟨S1x1024x2048, .f32⟩
  | 56 => ⟨S1024x2048, .f32⟩
  | 57 => ⟨S1024x2048, .f32⟩
  | 58 => ⟨S_, .f32⟩
  | 59 => ⟨S1024x2048, .f32⟩
  | 60 => ⟨S1024x2048, .f32⟩
  | 61 => ⟨S1x2048x1024, .f32⟩
  | 62 => ⟨S2048x1024, .f32⟩
  | 63 => ⟨S1024x1024, .f32⟩
  | 64 => ⟨S1024x1, .i32⟩
  | 65 => ⟨S_, .i32⟩
  | 66 => ⟨S1024x1, .i32⟩
  | 67 => ⟨S1024x1, .i1⟩
  | 68 => ⟨S1024x1, .f32⟩
  | 69 => ⟨S1024x1024, .f32⟩
  | 70 => ⟨S1024x1024, .f32⟩
  | 71 => ⟨S_, .f32⟩
  | 72 => ⟨S_, .f32⟩
  | 73 => ⟨S1024x1024, .i1⟩
  | 74 => ⟨S1024x1024, .f32⟩
  | 75 => ⟨S1024x1024, .f32⟩
  | 76 => ⟨S1024x1024, .f32⟩
  | 77 => ⟨S1024x1, .i32⟩
  | 78 => ⟨S_, .i32⟩
  | 79 => ⟨S1024x1, .i32⟩
  | 80 => ⟨S1024x1, .i1⟩
  | 81 => ⟨S1024x1, .f32⟩
  | 82 => ⟨S1024x1024, .f32⟩
  | 83 => ⟨S1024x1024, .f32⟩
  | 84 => ⟨S_, .f32⟩
  | 85 => ⟨S_, .f32⟩
  | 86 => ⟨S1024x1024, .i1⟩
  | 87 => ⟨S1024x1024, .f32⟩
  | 88 => ⟨S1024x1024, .f32⟩
  | 89 => ⟨S1024x1024, .f32⟩
  | 90 => ⟨S1x1024x2048, .f32⟩
  | 91 => ⟨S1024x2048, .f32⟩
  | 92 => ⟨S1024x2048, .f32⟩
  | 93 => ⟨S_, .f32⟩
  | 94 => ⟨S1024x2048, .f32⟩
  | 95 => ⟨S1024x2048, .f32⟩
  | 96 => ⟨S1x2048x1024, .f32⟩
  | 97 => ⟨S2048x1024, .f32⟩
  | 98 => ⟨S1024x1024, .f32⟩
  | 99 => ⟨S1024x1, .i32⟩
  | 100 => ⟨S_, .i32⟩
  | 101 => ⟨S1024x1, .i32⟩
  | 102 => ⟨S1024x1, .i1⟩
  | 103 => ⟨S1024x1, .f32⟩
  | 104 => ⟨S1024x1024, .f32⟩
  | 105 => ⟨S1024x1024, .f32⟩
  | 106 => ⟨S_, .f32⟩
  | 107 => ⟨S_, .f32⟩
  | 108 => ⟨S1024x1024, .i1⟩
  | 109 => ⟨S1024x1024, .f32⟩
  | 110 => ⟨S1024x1024, .f32⟩
  | 111 => ⟨S1024x1024, .f32⟩
  | 112 => ⟨S1024x1, .i32⟩
  | 113 => ⟨S_, .i32⟩
  | 114 => ⟨S1024x1, .i32⟩
  | 115 => ⟨S1024x1, .i1⟩
  | 116 => ⟨S1024x1, .f32⟩
  | 117 => ⟨S1024x1024, .f32⟩
  | 118 => ⟨S1024x1024, .f32⟩
  | 119 => ⟨S_, .f32⟩
  | 120 => ⟨S_, .f32⟩
  | 121 => ⟨S1024x1024, .i1⟩
  | 122 => ⟨S1024x1024, .f32⟩
  | 123 => ⟨S1024x1024, .f32⟩
  | 124 => ⟨S1024x1024, .f32⟩
  | 125 => ⟨S1x1024x2048, .f32⟩
  | 126 => ⟨S1024x2048, .f32⟩
  | 127 => ⟨S1024x2048, .f32⟩
  | _ => ⟨S1024x1024, .f32⟩

abbrev hbmTy0_1 (i : Nat) : BufTy := match i % 128 with
  | 0 => ⟨S_, .f32⟩
  | 1 => ⟨S1024x2048, .f32⟩
  | 2 => ⟨S1024x2048, .f32⟩
  | 3 => ⟨S1x2048x1024, .f32⟩
  | 4 => ⟨S2048x1024, .f32⟩
  | 5 => ⟨S1024x1024, .f32⟩
  | 6 => ⟨S1024x1, .i32⟩
  | 7 => ⟨S_, .i32⟩
  | 8 => ⟨S1024x1, .i32⟩
  | 9 => ⟨S1024x1, .i1⟩
  | 10 => ⟨S1024x1, .f32⟩
  | 11 => ⟨S1024x1024, .f32⟩
  | 12 => ⟨S1024x1024, .f32⟩
  | 13 => ⟨S_, .f32⟩
  | 14 => ⟨S_, .f32⟩
  | 15 => ⟨S1024x1024, .i1⟩
  | 16 => ⟨S1024x1024, .f32⟩
  | 17 => ⟨S1024x1024, .f32⟩
  | 18 => ⟨S1024x1024, .f32⟩
  | 19 => ⟨S1024x1, .i32⟩
  | 20 => ⟨S_, .i32⟩
  | 21 => ⟨S1024x1, .i32⟩
  | 22 => ⟨S1024x1, .i1⟩
  | 23 => ⟨S1024x1, .f32⟩
  | 24 => ⟨S1024x1024, .f32⟩
  | 25 => ⟨S1024x1024, .f32⟩
  | 26 => ⟨S_, .f32⟩
  | 27 => ⟨S_, .f32⟩
  | 28 => ⟨S1024x1024, .i1⟩
  | 29 => ⟨S1024x1024, .f32⟩
  | 30 => ⟨S1024x1024, .f32⟩
  | 31 => ⟨S1024x1024, .f32⟩
  | 32 => ⟨S1x1024x2048, .f32⟩
  | 33 => ⟨S1024x2048, .f32⟩
  | 34 => ⟨S1024x2048, .f32⟩
  | 35 => ⟨S_, .f32⟩
  | 36 => ⟨S1024x2048, .f32⟩
  | 37 => ⟨S1024x2048, .f32⟩
  | 38 => ⟨S1x2048x1024, .f32⟩
  | 39 => ⟨S2048x1024, .f32⟩
  | 40 => ⟨S1024x1024, .f32⟩
  | 41 => ⟨S1024x1, .i32⟩
  | 42 => ⟨S_, .i32⟩
  | 43 => ⟨S1024x1, .i32⟩
  | 44 => ⟨S1024x1, .i1⟩
  | 45 => ⟨S1024x1, .f32⟩
  | 46 => ⟨S1024x1024, .f32⟩
  | 47 => ⟨S1024x1024, .f32⟩
  | 48 => ⟨S_, .f32⟩
  | 49 => ⟨S_, .f32⟩
  | 50 => ⟨S1024x1024, .i1⟩
  | 51 => ⟨S1024x1024, .f32⟩
  | 52 => ⟨S1024x1024, .f32⟩
  | 53 => ⟨S1024x1024, .f32⟩
  | 54 => ⟨S1024x1, .i32⟩
  | 55 => ⟨S_, .i32⟩
  | 56 => ⟨S1024x1, .i32⟩
  | 57 => ⟨S1024x1, .i1⟩
  | 58 => ⟨S1024x1, .f32⟩
  | 59 => ⟨S1024x1024, .f32⟩
  | 60 => ⟨S1024x1024, .f32⟩
  | 61 => ⟨S_, .f32⟩
  | 62 => ⟨S_, .f32⟩
  | 63 => ⟨S1024x1024, .i1⟩
  | 64 => ⟨S1024x1024, .f32⟩
  | 65 => ⟨S1024x1024, .f32⟩
  | 66 => ⟨S1024x1024, .f32⟩
  | 67 => ⟨S1x1024x2048, .f32⟩
  | 68 => ⟨S1024x2048, .f32⟩
  | 69 => ⟨S1024x2048, .f32⟩
  | 70 => ⟨S_, .f32⟩
  | 71 => ⟨S1024x2048, .f32⟩
  | 72 => ⟨S1024x2048, .f32⟩
  | 73 => ⟨S1x2048x1024, .f32⟩
  | 74 => ⟨S2048x1024, .f32⟩
  | 75 => ⟨S1024x1024, .f32⟩
  | 76 => ⟨S1024x1, .i32⟩
  | 77 => ⟨S_, .i32⟩
  | 78 => ⟨S1024x1, .i32⟩
  | 79 => ⟨S1024x1, .i1⟩
  | 80 => ⟨S1024x1, .f32⟩
  | 81 => ⟨S1024x1024, .f32⟩
  | 82 => ⟨S1024x1024, .f32⟩
  | 83 => ⟨S_, .f32⟩
  | 84 => ⟨S_, .f32⟩
  | 85 => ⟨S1024x1024, .i1⟩
  | 86 => ⟨S1024x1024, .f32⟩
  | 87 => ⟨S1024x1024, .f32⟩
  | 88 => ⟨S1024x1024, .f32⟩
  | 89 => ⟨S1024x1, .i32⟩
  | 90 => ⟨S_, .i32⟩
  | 91 => ⟨S1024x1, .i32⟩
  | 92 => ⟨S1024x1, .i1⟩
  | 93 => ⟨S1024x1, .f32⟩
  | 94 => ⟨S1024x1024, .f32⟩
  | 95 => ⟨S1024x1024, .f32⟩
  | 96 => ⟨S_, .f32⟩
  | 97 => ⟨S_, .f32⟩
  | 98 => ⟨S1024x1024, .i1⟩
  | 99 => ⟨S1024x1024, .f32⟩
  | 100 => ⟨S1024x1024, .f32⟩
  | 101 => ⟨S1024x1024, .f32⟩
  | 102 => ⟨S1x1024x2048, .f32⟩
  | 103 => ⟨S1024x2048, .f32⟩
  | 104 => ⟨S1024x2048, .f32⟩
  | 105 => ⟨S_, .f32⟩
  | 106 => ⟨S1024x2048, .f32⟩
  | 107 => ⟨S1024x2048, .f32⟩
  | 108 => ⟨S1x2048x1024, .f32⟩
  | 109 => ⟨S2048x1024, .f32⟩
  | 110 => ⟨S1024x1024, .f32⟩
  | 111 => ⟨S1024x1, .i32⟩
  | 112 => ⟨S_, .i32⟩
  | 113 => ⟨S1024x1, .i32⟩
  | 114 => ⟨S1024x1, .i1⟩
  | 115 => ⟨S1024x1, .f32⟩
  | 116 => ⟨S1024x1024, .f32⟩
  | 117 => ⟨S1024x1024, .f32⟩
  | 118 => ⟨S_, .f32⟩
  | 119 => ⟨S_, .f32⟩
  | 120 => ⟨S1024x1024, .i1⟩
  | 121 => ⟨S1024x1024, .f32⟩
  | 122 => ⟨S1024x1024, .f32⟩
  | 123 => ⟨S1024x1024, .f32⟩
  | 124 => ⟨S1024x1, .i32⟩
  | 125 => ⟨S_, .i32⟩
  | 126 => ⟨S1024x1, .i32⟩
  | 127 => ⟨S1024x1, .i1⟩
  | _ => ⟨S1024x1024, .f32⟩

abbrev hbmTy0_2 (i : Nat) : BufTy := match i % 128 with
  | 0 => ⟨S1024x1, .f32⟩
  | 1 => ⟨S1024x1024, .f32⟩
  | 2 => ⟨S1024x1024, .f32⟩
  | 3 => ⟨S_, .f32⟩
  | 4 => ⟨S_, .f32⟩
  | 5 => ⟨S1024x1024, .i1⟩
  | 6 => ⟨S1024x1024, .f32⟩
  | 7 => ⟨S1024x1024, .f32⟩
  | 8 => ⟨S1024x1024, .f32⟩
  | 9 => ⟨S1x1024x2048, .f32⟩
  | 10 => ⟨S1024x2048, .f32⟩
  | 11 => ⟨S1024x2048, .f32⟩
  | 12 => ⟨S_, .f32⟩
  | 13 => ⟨S1024x2048, .f32⟩
  | 14 => ⟨S1024x2048, .f32⟩
  | 15 => ⟨S1x2048x1024, .f32⟩
  | 16 => ⟨S2048x1024, .f32⟩
  | 17 => ⟨S1024x1024, .f32⟩
  | 18 => ⟨S1024x1, .i32⟩
  | 19 => ⟨S_, .i32⟩
  | 20 => ⟨S1024x1, .i32⟩
  | 21 => ⟨S1024x1, .i1⟩
  | 22 => ⟨S1024x1, .f32⟩
  | 23 => ⟨S1024x1024, .f32⟩
  | 24 => ⟨S1024x1024, .f32⟩
  | 25 => ⟨S_, .f32⟩
  | 26 => ⟨S_, .f32⟩
  | 27 => ⟨S1024x1024, .i1⟩
  | 28 => ⟨S1024x1024, .f32⟩
  | 29 => ⟨S1024x1024, .f32⟩
  | 30 => ⟨S1024x1024, .f32⟩
  | 31 => ⟨S1024x1, .i32⟩
  | 32 => ⟨S_, .i32⟩
  | 33 => ⟨S1024x1, .i32⟩
  | 34 => ⟨S1024x1, .i1⟩
  | 35 => ⟨S1024x1, .f32⟩
  | 36 => ⟨S1024x1024, .f32⟩
  | 37 => ⟨S1024x1024, .f32⟩
  | 38 => ⟨S_, .f32⟩
  | 39 => ⟨S_, .f32⟩
  | 40 => ⟨S1024x1024, .i1⟩
  | 41 => ⟨S1024x1024, .f32⟩
  | 42 => ⟨S1024x1024, .f32⟩
  | 43 => ⟨S1024x1024, .f32⟩
  | _ => ⟨S1024x1024, .f32⟩

abbrev hbmTy (i : Nat) : BufTy := match i / 128 with
  | 0 => hbmTy0_0 i
  | 1 => hbmTy0_1 i
  | 2 => hbmTy0_2 i
  | _ => ⟨S1024x1024, .f32⟩

abbrev bufTy : (tb : Table) → Fin (tcTables nBuf tb) → BufTy
  | .hbm, ⟨i, _⟩ => hbmTy i
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_values : Ref sig .tc := ⟨.hbm, 5, rfl⟩
abbrev main_indices : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_7 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_9 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_cst_10 : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_11 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_c_12 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_13 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_c_14 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_15 : Ref sig .tc := ⟨.hbm, 119, rfl⟩
abbrev main_call5_v0 : Ref sig .tc := ⟨.hbm, 120, rfl⟩
abbrev main_call5_v1 : Ref sig .tc := ⟨.hbm, 121, rfl⟩
abbrev main_call5_v2 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_cst_16 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_c_17 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_18 : Ref sig .tc := ⟨.hbm, 141, rfl⟩
abbrev main_call6_v0 : Ref sig .tc := ⟨.hbm, 142, rfl⟩
abbrev main_call6_v1 : Ref sig .tc := ⟨.hbm, 143, rfl⟩
abbrev main_call6_v2 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_c_19 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_cst_20 : Ref sig .tc := ⟨.hbm, 154, rfl⟩
abbrev main_call7_v0 : Ref sig .tc := ⟨.hbm, 155, rfl⟩
abbrev main_call7_v1 : Ref sig .tc := ⟨.hbm, 156, rfl⟩
abbrev main_call7_v2 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_cst_21 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_c_22 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_cst_23 : Ref sig .tc := ⟨.hbm, 176, rfl⟩
abbrev main_call8_v0 : Ref sig .tc := ⟨.hbm, 177, rfl⟩
abbrev main_call8_v1 : Ref sig .tc := ⟨.hbm, 178, rfl⟩
abbrev main_call8_v2 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_c_24 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_cst_25 : Ref sig .tc := ⟨.hbm, 189, rfl⟩
abbrev main_call9_v0 : Ref sig .tc := ⟨.hbm, 190, rfl⟩
abbrev main_call9_v1 : Ref sig .tc := ⟨.hbm, 191, rfl⟩
abbrev main_call9_v2 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_cst_26 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_c_27 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_cst_28 : Ref sig .tc := ⟨.hbm, 211, rfl⟩
abbrev main_call10_v0 : Ref sig .tc := ⟨.hbm, 212, rfl⟩
abbrev main_call10_v1 : Ref sig .tc := ⟨.hbm, 213, rfl⟩
abbrev main_call10_v2 : Ref sig .tc := ⟨.hbm, 214, rfl⟩
abbrev main_v145 : Ref sig .tc := ⟨.hbm, 215, rfl⟩
abbrev main_v146 : Ref sig .tc := ⟨.hbm, 216, rfl⟩
abbrev main_v147 : Ref sig .tc := ⟨.hbm, 217, rfl⟩
abbrev main_c_29 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_cst_30 : Ref sig .tc := ⟨.hbm, 224, rfl⟩
abbrev main_call11_v0 : Ref sig .tc := ⟨.hbm, 225, rfl⟩
abbrev main_call11_v1 : Ref sig .tc := ⟨.hbm, 226, rfl⟩
abbrev main_call11_v2 : Ref sig .tc := ⟨.hbm, 227, rfl⟩
abbrev main_v153 : Ref sig .tc := ⟨.hbm, 228, rfl⟩
abbrev main_v154 : Ref sig .tc := ⟨.hbm, 229, rfl⟩
abbrev main_v155 : Ref sig .tc := ⟨.hbm, 230, rfl⟩
abbrev main_v156 : Ref sig .tc := ⟨.hbm, 231, rfl⟩
abbrev main_v157 : Ref sig .tc := ⟨.hbm, 232, rfl⟩
abbrev main_cst_31 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_c_32 : Ref sig .tc := ⟨.hbm, 240, rfl⟩
abbrev main_v164 : Ref sig .tc := ⟨.hbm, 241, rfl⟩
abbrev main_v165 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_cst_33 : Ref sig .tc := ⟨.hbm, 246, rfl⟩
abbrev main_call12_v0 : Ref sig .tc := ⟨.hbm, 247, rfl⟩
abbrev main_call12_v1 : Ref sig .tc := ⟨.hbm, 248, rfl⟩
abbrev main_call12_v2 : Ref sig .tc := ⟨.hbm, 249, rfl⟩
abbrev main_v169 : Ref sig .tc := ⟨.hbm, 250, rfl⟩
abbrev main_v170 : Ref sig .tc := ⟨.hbm, 251, rfl⟩
abbrev main_v171 : Ref sig .tc := ⟨.hbm, 252, rfl⟩
abbrev main_c_34 : Ref sig .tc := ⟨.hbm, 253, rfl⟩
abbrev main_v172 : Ref sig .tc := ⟨.hbm, 254, rfl⟩
abbrev main_v173 : Ref sig .tc := ⟨.hbm, 255, rfl⟩
abbrev main_v174 : Ref sig .tc := ⟨.hbm, 256, rfl⟩
abbrev main_v175 : Ref sig .tc := ⟨.hbm, 257, rfl⟩
abbrev main_v176 : Ref sig .tc := ⟨.hbm, 258, rfl⟩
abbrev main_cst_35 : Ref sig .tc := ⟨.hbm, 259, rfl⟩
abbrev main_call13_v0 : Ref sig .tc := ⟨.hbm, 260, rfl⟩
abbrev main_call13_v1 : Ref sig .tc := ⟨.hbm, 261, rfl⟩
abbrev main_call13_v2 : Ref sig .tc := ⟨.hbm, 262, rfl⟩
abbrev main_v177 : Ref sig .tc := ⟨.hbm, 263, rfl⟩
abbrev main_v178 : Ref sig .tc := ⟨.hbm, 264, rfl⟩
abbrev main_v179 : Ref sig .tc := ⟨.hbm, 265, rfl⟩
abbrev main_v180 : Ref sig .tc := ⟨.hbm, 266, rfl⟩
abbrev main_v181 : Ref sig .tc := ⟨.hbm, 267, rfl⟩
abbrev main_cst_36 : Ref sig .tc := ⟨.hbm, 268, rfl⟩
abbrev main_v182 : Ref sig .tc := ⟨.hbm, 269, rfl⟩
abbrev main_v183 : Ref sig .tc := ⟨.hbm, 270, rfl⟩
abbrev main_v184 : Ref sig .tc := ⟨.hbm, 271, rfl⟩
abbrev main_v185 : Ref sig .tc := ⟨.hbm, 272, rfl⟩
abbrev main_v186 : Ref sig .tc := ⟨.hbm, 273, rfl⟩
abbrev main_v187 : Ref sig .tc := ⟨.hbm, 274, rfl⟩
abbrev main_c_37 : Ref sig .tc := ⟨.hbm, 275, rfl⟩
abbrev main_v188 : Ref sig .tc := ⟨.hbm, 276, rfl⟩
abbrev main_v189 : Ref sig .tc := ⟨.hbm, 277, rfl⟩
abbrev main_v190 : Ref sig .tc := ⟨.hbm, 278, rfl⟩
abbrev main_v191 : Ref sig .tc := ⟨.hbm, 279, rfl⟩
abbrev main_v192 : Ref sig .tc := ⟨.hbm, 280, rfl⟩
abbrev main_cst_38 : Ref sig .tc := ⟨.hbm, 281, rfl⟩
abbrev main_call14_v0 : Ref sig .tc := ⟨.hbm, 282, rfl⟩
abbrev main_call14_v1 : Ref sig .tc := ⟨.hbm, 283, rfl⟩
abbrev main_call14_v2 : Ref sig .tc := ⟨.hbm, 284, rfl⟩
abbrev main_v193 : Ref sig .tc := ⟨.hbm, 285, rfl⟩
abbrev main_v194 : Ref sig .tc := ⟨.hbm, 286, rfl⟩
abbrev main_v195 : Ref sig .tc := ⟨.hbm, 287, rfl⟩
abbrev main_c_39 : Ref sig .tc := ⟨.hbm, 288, rfl⟩
abbrev main_v196 : Ref sig .tc := ⟨.hbm, 289, rfl⟩
abbrev main_v197 : Ref sig .tc := ⟨.hbm, 290, rfl⟩
abbrev main_v198 : Ref sig .tc := ⟨.hbm, 291, rfl⟩
abbrev main_v199 : Ref sig .tc := ⟨.hbm, 292, rfl⟩
abbrev main_v200 : Ref sig .tc := ⟨.hbm, 293, rfl⟩
abbrev main_cst_40 : Ref sig .tc := ⟨.hbm, 294, rfl⟩
abbrev main_call15_v0 : Ref sig .tc := ⟨.hbm, 295, rfl⟩
abbrev main_call15_v1 : Ref sig .tc := ⟨.hbm, 296, rfl⟩
abbrev main_call15_v2 : Ref sig .tc := ⟨.hbm, 297, rfl⟩
abbrev main_v201 : Ref sig .tc := ⟨.hbm, 298, rfl⟩
abbrev main_v202 : Ref sig .tc := ⟨.hbm, 299, rfl⟩

abbrev nD : Nat := 1
abbrev τ : Topo := Topo.v7x

variable {F : FTy → Type} [FloatOps F]
-- ==== Proof.Protocol.lean ====
/-
# The exchange protocol of the kernel

Sixteen devices in a mesh of 2 × 2 × 4; a device exchanges with ONE other, its partner along the second mesh axis
(logical ids 4 apart). The semaphores of a device `c`, each used once:

* its barrier semaphore: the partner signals one unit, `c` waits for one. The partner's unit says that the partner has
  entered the kernel and hands `c` the four places of the partner's memory `c` will write: the rows of the gathered
  token buffer and of the gathered weight buffer that are `c`'s, the partner's buffer for the other router block, and
  the partner's receive buffer for the partial sums;
* receive semaphores 0 to 3, credited by the partner's four transfers: the partner's token rows (in bf16), its router
  block, the weights of the partner's tokens for `c`'s experts, and the partial sums that the partner's experts give
  for `c`'s tokens;
* send semaphores 0 to 3, credited when `c`'s own four transfers have read their sources: each hands the source (or the
  share of it that was lent) back.

A wait on the barrier comes before everything, then receive 1, then receives 0 and 2, then receive 3: the levels.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! ## The resource algebra -/

/-- The exchange's rounds: one duty per semaphore. -/
abbrev UX : Type := URounds (GSem nD τ sig) Unit
/-- The pipeline's rounds, the exchange's, the local transfers' counters. -/
abbrev UU : Type := UR sig nD τ × (UX × Counters)

local notation "𝕄" => MT nD τ sig Unit (Elt F) ℕ UU ℕ

abbrev EP : Emb (UR sig nD τ) (MT nD τ sig Unit (Elt F) ℕ UU ℕ) := embL
/-- The exchange's place in the algebra. -/
def EX : Emb UX (MT nD τ sig Unit (Elt F) ℕ UU ℕ) :=
  ((Emb.inl : Emb UX (UX × Counters)).trans (Emb.inr : Emb (UX × Counters) UU)).trans
    (uEmb (nD := nD) (sig := sig) (Ix := Unit) (Val := Elt F) (Name := ℕ) (U := UU) (Lvl := ℕ)).toEmb
instance EX_landsIn : (EX : Emb UX 𝕄).LandsIn (upEmb : UEmb _ 𝕄) := by unfold EX; infer_instance

variable (m : (ℓ : Loc nD τ sig) → Buf (Elt F) ℓ)

/-! ## The partner -/

set_option backward.proofsInPublic true in
/-- The device with the other second coordinate: four ids up or down. -/
def peer (c : Dev nD) : Dev nD :=
  ⟨(8 * (c.val / 8) + c.val % 4 + 4) - 4 * ((c.val / 4) % 2), by have := c.isLt; simp only [nD] at *; omega⟩

theorem peer_peer (c : Dev nD) : peer (peer c) = c := by revert c; decide
/-- The partner, as a permutation of the devices. -/
def swap : Dev nD ≃ Dev nD := ⟨peer, peer, peer_peer, peer_peer⟩

/-- Every device the kernel computes is the partner. -/
theorem dev1_eq (c : Dev nD) : (⟨k0_dev1 c, k0_dev1_lt c⟩ : Dev nD) = peer c := Fin.ext (k0_dev1_eq c)
theorem dev2_eq (c : Dev nD) : (⟨k0_dev2 c, k0_dev2_lt c⟩ : Dev nD) = peer c := Fin.ext (k0_dev2_eq c)
theorem dev3_eq (c : Dev nD) : (⟨k0_dev3 c, k0_dev3_lt c⟩ : Dev nD) = peer c := Fin.ext (k0_dev3_eq c)
theorem dev4_eq (c : Dev nD) : (⟨k0_dev4 c, k0_dev4_lt c⟩ : Dev nD) = peer c := Fin.ext (k0_dev4_eq c)
theorem dev5_eq (c : Dev nD) : (⟨k0_dev5 c, k0_dev5_lt c⟩ : Dev nD) = peer c := Fin.ext (k0_dev5_eq c)

/-- The rows of the partner, seen from `c`, are the rows the partner calls its own. -/
theorem off6_eq_off2 (c : Dev nD) : k0_off6 c = k0_off2 (peer c) := by
  rw [k0_off6_eq, k0_off2_eq]; revert c; decide

/-! ## The buffers -/

abbrev xM : Memref sig .tc .vmem S512x1024 .f32 := Memref.whole cc0_stg0_0
abbrev rM : Memref sig .tc .vmem S1024x4 .f32 := Memref.whole cc0_stg1_0
abbrev oM : Memref sig .tc .vmem S512x1024 .f32 := Memref.whole cc0_stg2_0
abbrev w1M : Memref sig .tc .hbm S4x1024x2048 .f32 := Memref.whole main_arg2
abbrev w2M : Memref sig .tc .hbm S4x2048x1024 .f32 := Memref.whole main_arg3
/-- The gathered tokens, the other router block, the gathered weights. -/
abbrev gM : Memref sig .tc .vmem S1024x1024 .bf16 := Memref.whole cc0_scratch0
abbrev qM : Memref sig .tc .vmem S1024x4 .f32 := Memref.whole cc0_scratch1
abbrev wM : Memref sig .tc .vmem S1024x4 .f32 := Memref.whole cc0_scratch2
/-- The weights to send, the partial sums to send and received, the partial sums' accumulator. -/
abbrev vM : Memref sig .tc .vmem S512x4 .f32 := Memref.whole cc0_scratch3
abbrev psM : Memref sig .tc .vmem S512x1024 .bf16 := Memref.whole cc0_scratch4
abbrev prM : Memref sig .tc .vmem S512x1024 .bf16 := Memref.whole cc0_scratch5
abbrev paM : Memref sig .tc .vmem S512x1024 .f32 := Memref.whole cc0_scratch6
/-- The two expert matrices being used. -/
abbrev aM : Memref sig .tc .vmem S1024x2048 .f32 := Memref.whole cc0_scratch7
abbrev bM : Memref sig .tc .vmem S2048x1024 .f32 := Memref.whole cc0_scratch8

/-- Device `c`'s rows of the gathered tokens and of the gathered weights (of any device). -/
abbrev gRows (c : Dev nD) : Memref sig .tc .vmem S512x1024 .bf16 :=
  gM.slice (Rect.unit (s := S1024x1024) (k0_off2 c) S512x1024.size (k0_off2_inb c)) (fun _ => rfl)
abbrev wRows (c : Dev nD) : Memref sig .tc .vmem S512x4 .f32 :=
  wM.slice (Rect.unit (s := S1024x4) (k0_off4 c) S512x4.size (k0_off4_inb c)) (fun _ => rfl)

/-- Expert `e`'s two matrices in the device's arrays. -/
abbrev w1At : Fin 4 → Memref sig .tc .hbm S1024x2048 .f32
  | 0 => (w1M.slice (Rect.unit (s := S4x1024x2048) ![0, 0, 0] S1x1024x2048.size inb_S4x1024x2048_S1x1024x2048_0_0_0) (fun _ => rfl)).squeeze S1024x2048 squeezes_S1x1024x2048_S1024x2048
  | 1 => (w1M.slice (Rect.unit (s := S4x1024x2048) ![1, 0, 0] S1x1024x2048.size inb_S4x1024x2048_S1x1024x2048_1_0_0) (fun _ => rfl)).squeeze S1024x2048 squeezes_S1x1024x2048_S1024x2048
  | 2 => (w1M.slice (Rect.unit (s := S4x1024x2048) ![2, 0, 0] S1x1024x2048.size inb_S4x1024x2048_S1x1024x2048_2_0_0) (fun _ => rfl)).squeeze S1024x2048 squeezes_S1x1024x2048_S1024x2048
  | 3 => (w1M.slice (Rect.unit (s := S4x1024x2048) ![3, 0, 0] S1x1024x2048.size inb_S4x1024x2048_S1x1024x2048_3_0_0) (fun _ => rfl)).squeeze S1024x2048 squeezes_S1x1024x2048_S1024x2048
abbrev w2At : Fin 4 → Memref sig .tc .hbm S2048x1024 .f32
  | 0 => (w2M.slice (Rect.unit (s := S4x2048x1024) ![0, 0, 0] S1x2048x1024.size inb_S4x2048x1024_S1x2048x1024_0_0_0) (fun _ => rfl)).squeeze S2048x1024 squeezes_S1x2048x1024_S2048x1024
  | 1 => (w2M.slice (Rect.unit (s := S4x2048x1024) ![1, 0, 0] S1x2048x1024.size inb_S4x2048x1024_S1x2048x1024_1_0_0) (fun _ => rfl)).squeeze S2048x1024 squeezes_S1x2048x1024_S2048x1024
  | 2 => (w2M.slice (Rect.unit (s := S4x2048x1024) ![2, 0, 0] S1x2048x1024.size inb_S4x2048x1024_S1x2048x1024_2_0_0) (fun _ => rfl)).squeeze S2048x1024 squeezes_S1x2048x1024_S2048x1024
  | 3 => (w2M.slice (Rect.unit (s := S4x2048x1024) ![3, 0, 0] S1x2048x1024.size inb_S4x2048x1024_S1x2048x1024_3_0_0) (fun _ => rfl)).squeeze S2048x1024 squeezes_S1x2048x1024_S2048x1024

/-! ## The contents, as functions of the launch memory -/

/-- Device `c`'s token block and router block, as staged. -/
def xB (c : Dev nD) : Vec F S512x1024 .f32 := (win0_0.blk (0 : Fin 1)).view.read (Elt F) (m ((c : Thread nD τ).loc main_arg0))
def rB (c : Dev nD) : Vec F S1024x4 .f32 := (win0_1.blk (0 : Fin 1)).view.read (Elt F) (m ((c : Thread nD τ).loc main_arg1))
/-- Its expert `e`'s matrices. -/
def w1 (c : Dev nD) : Fin 4 → Vec F S1024x2048 .f32
  | 0 => (w1At 0).view.read (Elt F) (m ((c : Thread nD τ).loc main_arg2))
  | 1 => (w1At 1).view.read (Elt F) (m ((c : Thread nD τ).loc main_arg2))
  | 2 => (w1At 2).view.read (Elt F) (m ((c : Thread nD τ).loc main_arg2))
  | 3 => (w1At 3).view.read (Elt F) (m ((c : Thread nD τ).loc main_arg2))
def w2 (c : Dev nD) : Fin 4 → Vec F S2048x1024 .f32
  | 0 => (w2At 0).view.read (Elt F) (m ((c : Thread nD τ).loc main_arg3))
  | 1 => (w2At 1).view.read (Elt F) (m ((c : Thread nD τ).loc main_arg3))
  | 2 => (w2At 2).view.read (Elt F) (m ((c : Thread nD τ).loc main_arg3))
  | 3 => (w2At 3).view.read (Elt F) (m ((c : Thread nD τ).loc main_arg3))
/-- The device's second coordinate, as the kernel computes it. -/
abbrev yw (c : Dev nD) : BitVec 32 := Scalar.remsi (Scalar.divsi (Dev.word c) 4#32) 2#32
/-- Its tokens in bf16. -/
def xh (c : Dev nD) : FVec F S512x1024 .bf16 := k0_pay1 (xB m c)
/-- The weights of its tokens for the first four experts and for the last four, -/
def wlo (c : Dev nD) : FVec F S512x4 .f32 := k0_pay3 (yw c) (xB m c) (rB m c) (rB m (peer c))
def whi (c : Dev nD) : FVec F S512x4 .f32 := k0_pay4 (yw c) (xB m c) (rB m c) (rB m (peer c))
/-- for its own experts and for its partner's. -/
def mine (c : Dev nD) : FVec F S512x4 .f32 := k0_pay5 (yw c) (wlo m c) (whi m c)
def theirs (c : Dev nD) : FVec F S512x4 .f32 := k0_pay6 (yw c) (wlo m c) (whi m c)
/-- The result buffer after expert 0, 1, 2 and 3 of the device on its own tokens. -/
def o0 (c : Dev nD) : FVec F S512x1024 .f32 := k0_pay9 (k0_pay7 (w1 m c 0)) (w2 m c 0) (xh m c) (mine m c)
def o1 (c : Dev nD) : FVec F S512x1024 .f32 := k0_pay13 (w1 m c 1) (w2 m c 1) (xh m c) (mine m c) (o0 m c)
def o2 (c : Dev nD) : FVec F S512x1024 .f32 := k0_pay20 (k0_pay18 (w1 m c 2) (w2 m c 2) (xh m c)) (k0_pay19 (mine m c)) (o1 m c)
def o3 (c : Dev nD) : FVec F S512x1024 .f32 :=
  k0_pay25 (k0_pay22 (w1 m c 3)) (k0_pay23 (w2 m c 3)) (xh m c) (mine m c) (o2 m c)
/-- The accumulator after expert 0, 1 and 2 of the device on its partner's tokens, and the partial sums it sends. -/
def p0 (c : Dev nD) : FVec F S512x1024 .f32 := k0_pay10 (k0_pay7 (w1 m c 0)) (k0_pay8 (w2 m c 0)) (xh m (peer c)) (theirs m (peer c))
def p1 (c : Dev nD) : FVec F S512x1024 .f32 := k0_pay15 (k0_pay12 (w2 m c 1)) (k0_pay14 (w1 m c 1) (xh m (peer c))) (theirs m (peer c)) (p0 m c)
def p2 (c : Dev nD) : FVec F S512x1024 .f32 :=
  k0_pay21 (k0_pay16 (w1 m c 2)) (k0_pay17 (w2 m c 2)) (xh m (peer c)) (theirs m (peer c)) (p1 m c)
def p3 (c : Dev nD) : FVec F S512x1024 .bf16 :=
  k0_pay24 (w1 m c 3) (w2 m c 3) (xh m (peer c)) (theirs m (peer c)) (p2 m c)
/-- The device's result. -/
def res (c : Dev nD) : FVec F S512x1024 .f32 := k0_pay26 (o3 m c) (p3 m (peer c))

end Cert.Moe
end
-- ==== Proof.Schedule.lean ====
/-
# The exchange as a schedule of rounds

Each device has nine semaphores that take part in the exchange, numbered 0 to 8: the barrier, the four send semaphores,
the four receive semaphores. Each is credited once (one round, one duty) with an amount that does not depend on the
device; a table gives what the credit hands to the device that waits.
-/
module

public import proofs.«01_k».proof.Proof.Protocol

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-! ## The nine semaphores -/

/-- The barrier semaphore, and the four slots of a semaphore array. -/
abbrev barS : Sem sig := (SemArray.scalar (sig.barrier 0 rfl) : Sems sig S_).sem
abbrev slotOf (a : DmaSems sig S4) : Fin 4 → DmaSem sig
  | 0 => ((a.slice (Rect.unit (s := S4) ![0] S1.size inb_S4_S1_0)).squeeze S_ squeezes_S1_S_).sem
  | 1 => ((a.slice (Rect.unit (s := S4) ![1] S1.size inb_S4_S1_1)).squeeze S_ squeezes_S1_S_).sem
  | 2 => ((a.slice (Rect.unit (s := S4) ![2] S1.size inb_S4_S1_2)).squeeze S_ squeezes_S1_S_).sem
  | 3 => ((a.slice (Rect.unit (s := S4) ![3] S1.size inb_S4_S1_3)).squeeze S_ squeezes_S1_S_).sem
/-- The two semaphores of the local copies. -/
abbrev locS : Fin 2 → DmaSem sig
  | 0 => ((cc0_scratch11.slice (Rect.unit (s := S2) ![0] S1.size inb_S2_S1_0)).squeeze S_ squeezes_S1_S_).sem
  | 1 => ((cc0_scratch11.slice (Rect.unit (s := S2) ![1] S1.size inb_S2_S1_1)).squeeze S_ squeezes_S1_S_).sem

/-- The nine: the barrier, send 0 to 3, receive 0 to 3. -/
abbrev csem : Fin 9 → SemLoc sig
  | 0 => .reg barS
  | 1 => .dma (slotOf cc0_scratch9 0) | 2 => .dma (slotOf cc0_scratch9 1)
  | 3 => .dma (slotOf cc0_scratch9 2) | 4 => .dma (slotOf cc0_scratch9 3)
  | 5 => .dma (slotOf cc0_scratch10 0) | 6 => .dma (slotOf cc0_scratch10 1)
  | 7 => .dma (slotOf cc0_scratch10 2) | 8 => .dma (slotOf cc0_scratch10 3)
abbrev kcell (ck : Dev nD × Fin 9) : GSem nD τ sig := ((ck.1 : Thread nD τ), csem ck.2)

/-- Which of the nine a semaphore is. -/
def kindOf (sm : SemLoc sig) : Option (Fin 9) := (List.finRange 9).find? fun k => csem k = sm
theorem kindOf_csem (k : Fin 9) : kindOf (csem k) = some k := by revert k; decide
theorem csem_injective : Function.Injective csem := fun k k' h =>
  Option.some.inj ((kindOf_csem k).symm.trans ((congrArg kindOf h).trans (kindOf_csem k')))
theorem kcell_injective : Function.Injective kcell := fun ck ck' h =>
  Prod.ext (congrArg (fun g : GSem nD τ sig => g.1.1) h) (csem_injective (congrArg Prod.snd h))
theorem kindOf_loc (i : Fin 2) : kindOf (.dma (locS i)) = none := by revert i; decide

/-- The amount each is credited. -/
def amt : Fin 9 → ℕ
  | 0 => 1
  | 1 => psM.view.dmaCredit | 2 => rM.view.dmaCredit | 3 => vM.view.dmaCredit | 4 => psM.view.dmaCredit
  | 5 => psM.view.dmaCredit | 6 => rM.view.dmaCredit | 7 => vM.view.dmaCredit | 8 => psM.view.dmaCredit
theorem amt_pos (k : Fin 9) : 0 < amt k := by
  fin_cases k
  · exact Nat.one_pos
  all_goals exact View.dmaCredit_pos _ (by decide)

/-! ## What the credits hand over -/

/-- The device holds the memref, at some contents. -/
def somewhat (c : Dev nD) {sp : Space} {s : Shape} {e : EltTy} (M : Memref sig .tc sp s e) : sProp 𝕄 :=
  iprop(∃ X : s.Idx → Elt F e, owns (c : Thread nD τ) M fullShare X)
instance somewhat_storable (c : Dev nD) {sp : Space} {s : Shape} {e : EltTy} (M : Memref sig .tc sp s e) :
    BI.Storable (upEmb : UEmb _ 𝕄) (somewhat (F := F) c M) := by unfold somewhat; infer_instance

/-- What the credit of device `c`'s `k`-th semaphore hands `c`. -/
def pay (c : Dev nD) : Fin 9 → sProp 𝕄
  | 0 => iprop(somewhat (peer c) (gRows c) ∗ somewhat (peer c) qM ∗ somewhat (peer c) (wRows c) ∗ somewhat (peer c) prM)
  | 1 => owns (c : Thread nD τ) (gRows c) fullShare.left (xh m c)
  | 2 => owns (c : Thread nD τ) rM fullShare.left (rB m c)
  | 3 => owns (c : Thread nD τ) vM fullShare (theirs m c)
  | 4 => owns (c : Thread nD τ) psM fullShare (p3 m c)
  | 5 => owns (c : Thread nD τ) (gRows (peer c)) fullShare (xh m (peer c))
  | 6 => owns (c : Thread nD τ) qM fullShare (rB m (peer c))
  | 7 => owns (c : Thread nD τ) (wRows (peer c)) fullShare (theirs m (peer c))
  | 8 => owns (c : Thread nD τ) prM fullShare (p3 m (peer c))
instance pay_storable (c : Dev nD) (k : Fin 9) : BI.Storable (upEmb : UEmb _ 𝕄) (pay m c k) := by
  fin_cases k <;> (unfold pay; infer_instance)

/-- One round, round 0, of one duty on each of the nine semaphores of each device. -/
def sched : Rounds.Schedule (GSem nD τ sig) Unit 𝕄 where
  duties g r := if r = 0 ∧ g.1.2 = .tc ∧ (kindOf g.2).isSome then {()} else ∅
  unitless _ := False
  amount g _ _ := match kindOf g.2 with | some k => amt k | none => 1
  payload g _ _ := match kindOf g.2 with | some k => pay m g.1.1 k | none => iprop(emp)
  amount_pos g _ _ _ := by
    cases h : kindOf g.2 with
    | none => exact Nat.one_pos
    | some k => exact amt_pos k

instance sched_payload_storable (g : GSem nD τ sig) (r : ℕ) (d : Unit) :
    BI.Storable (upEmb : UEmb _ 𝕄) ((sched m).payload g r d) := by
  show BI.Storable upEmb (match kindOf g.2 with | some k => pay m g.1.1 k | none => iprop(emp))
  cases kindOf g.2 <;> (dsimp only; infer_instance)

theorem duties_eq (c : Dev nD) (k : Fin 9) : (sched m).duties (kcell (c, k)) 0 = {()} := by
  dsimp only [sched]; exact if_pos ⟨rfl, rfl, by rw [kindOf_csem]; rfl⟩
theorem duties_later (g : GSem nD τ sig) : ∀ r, 1 ≤ r → (sched m).duties g r = ∅ :=
  fun r hr => by dsimp only [sched]; rw [if_neg fun h => by omega]
theorem amount_eq (c : Dev nD) (k : Fin 9) (r : ℕ) (d : Unit) : (sched m).amount (kcell (c, k)) r d = amt k := by
  dsimp only [sched]; rw [kindOf_csem]
theorem payload_eq (c : Dev nD) (k : Fin 9) (r : ℕ) (d : Unit) : (sched m).payload (kcell (c, k)) r d = pay m c k := by
  dsimp only [sched]; rw [kindOf_csem]
theorem expect_eq (c : Dev nD) (k : Fin 9) : (sched m).expect (kcell (c, k)) 0 = amt k := by
  unfold Schedule.expect Schedule.amountOf; rw [duties_eq, Finset.sum_singleton, amount_eq]
theorem rest_eq (c : Dev nD) (k : Fin 9) :
    bigSep ((sched m).duties (kcell (c, k)) 0 \ ∅) (fun d => (sched m).payload (kcell (c, k)) 0 d) = pay m c k := by
  rw [Finset.sdiff_empty, duties_eq, bigSep_singleton, payload_eq]

/-! ## What a device owes, and the levels -/

/-- What is owed to those of the partner's semaphores listed, the first to be paid first. -/
def due (c : Dev nD) : List (Fin 9) → CellTallies nD τ sig Unit
  | [] => 0
  | k :: ks => due c ks + tallyAt (kcell (peer c, k)) () (amt k)

theorem due_pos {c : Dev nD} {ks : List (Fin 9)} {g : GSem nD τ sig} {u : Unit} (h : 0 < due c ks g u) :
    ∃ k ∈ ks, g = kcell (peer c, k) := by
  induction ks with
  | nil => exact absurd h (Nat.lt_irrefl 0)
  | cons k ks ih =>
    unfold due at h
    rw [Pi.add_apply, Finsupp.add_apply, tallyAt_apply] at h
    by_cases hk : g = kcell (peer c, k)
    · exact ⟨k, List.mem_cons_self .., hk⟩
    · rw [if_neg fun h' => hk h'.1, Nat.add_zero] at h
      obtain ⟨k', hk', e⟩ := ih h
      exact ⟨k', List.mem_cons_of_mem _ hk', e⟩

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl
/-- The level of each of the nine; everything else is at level 0. -/
def klev : Fin 9 → ℕ
  | 0 => 1
  | 1 => 0 | 2 => 0 | 3 => 0 | 4 => 0
  | 5 => 3 | 6 => 2 | 7 => 3 | 8 => 4
def slev (sm : SemLoc sig) : ℕ := match kindOf sm with | some k => klev k | none => 0
def lv (g : GSem nD τ sig) (_ : Unit) : ℕ := slev g.2
theorem slev_csem (k : Fin 9) : slev (csem k) = klev k := by unfold slev; rw [kindOf_csem]

/-- A device may wait on a semaphore whose level is under those of all it owes. -/
theorem mayWait (c : Dev nD) (sm : SemLoc sig) (ks : List (Fin 9)) (h : ∀ k ∈ ks, slev sm < klev k) :
    (levAts L lv : sProp 𝕄) ⊢ MayWait (c : Thread nD τ) sm () (due c ks) :=
  MayOwe.of_cut (L := L) (lev := lv) (slev sm)
    (fun p hp => by rw [Finset.mem_singleton.mp hp, L_tc]; exact Finset.mem_singleton_self _)
    (fun g u hg => by obtain ⟨k, -, rfl⟩ := due_pos hg; exact Finset.mem_singleton_self _)
    (fun p hp => by rw [Finset.mem_singleton.mp hp]; exact le_refl _)
    (fun g u hg => by
      obtain ⟨k, hk, rfl⟩ := due_pos hg
      show slev sm < slev (csem k)
      rw [slev_csem]; exact h k hk)

end Cert.Moe
end
-- ==== Proof.Steps.lean ====
/-
# One rule per kind of step

The rules of the program logic as this kernel uses them: every buffer is held through a memref with its contents
named (`owns`), and a rule takes the memref's contents from before the step to after it.
-/
module

public import proofs.«01_k».proof.Proof.Schedule

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

abbrev 𝒱₀ : Variants := Variants.none

/-- The weakest precondition of a program of device `c`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The device owes the listed semaphores of its partner. -/
def owing (c : Dev nD) (ks : List (Fin 9)) : sProp 𝕄 := iprop(∃ W, owes (c : Thread nD τ) (due c ks) W)

/-! ## Loads and stores -/

section Mem

variable (c : Dev nD) {α : Type} {cs : CoreSpace} {s : Shape} {e : EltTy}

/-- A memref held at given contents, its buffer's contents named. -/
theorem owns_def {sp : Space} (M : Memref sig .tc sp s e) (q : PosShare TreeShare) (X : s.Idx → Elt F e) :
    (owns (c : Thread nD τ) M q X : sProp 𝕄)
      = iprop(∃ f : Buf (Elt F) (M.view.loc (c : Thread nD τ)), ⌜M.view.read (Elt F) f = X⌝ ∗ M.view.loc (c : Thread nD τ) ↦[M.view.set]{q} f) := rfl

theorem owns_intro {sp : Space} (M : Memref sig .tc sp s e) (q : PosShare TreeShare) (f : Buf (Elt F) (M.view.loc (c : Thread nD τ))) {X : s.Idx → Elt F e}
    (hf : M.view.read (Elt F) f = X) : (M.view.loc (c : Thread nD τ) ↦[M.view.set]{q} f : sProp 𝕄) ⊢ owns (c : Thread nD τ) M q X := by
  rw [owns_def]
  iintro H
  iexists f; isplitr; · ipureintro; exact hf
  iexact H

/-- What a rectangle of the whole of a memref reads is what the memref reads. -/
theorem read_all (v : View sig .tc cs s e) {off : Fin s.rank → Nat} (h0 : off = fun _ => 0) (inb : ∀ a, off a + s.size a ≤ s.size a)
    (f : v.ty.Contents (Elt F)) : (v.slice (Rect.unit off s.size inb)).read (Elt F) f = v.read (Elt F) f := by
  subst h0
  funext x
  show v.read (Elt F) f ((Rect.whole s).emb x) = v.read (Elt F) f x
  rw [Rect.emb_whole_apply]

/-- A load of a whole memref continues at its contents. -/
theorem load_all (M : Memref sig .tc cs s e) {off : Fin s.rank → Nat} (h0 : off = fun _ => 0) {inb : ∀ a, off a + s.size a ≤ s.size a}
    {hl : M.view.LoadsAt (Rect.unit off s.size inb).toLoadRect} {q : PosShare TreeShare} {X : s.Idx → Elt F e}
    {k : (s.Idx → Elt F e) → Prog (TpuEff nD τ sig (Elt F) Λ₀ .tc) α} {Q : α → sProp 𝕄} :
    (owns (c : Thread nD τ) M q X : sProp 𝕄)
      ⊢ iprop((owns (c : Thread nD τ) M q X -∗ runs c (k X) Q) -∗ runs c (.op (.load M (Rect.unit off s.size inb).toLoadRect hl) k) Q) := by
  rw [owns_def]
  iintro ⟨%f, %hf, H⟩ Hk
  iapply (wp_load_rect 𝒱₀ (c : Thread nD τ) none Set.univ (m := M) (r := Rect.unit off s.size inb) (View.set_slice_subset _ _)) $$ H
  iintro H
  rw [show (M.access (Rect.unit off s.size inb)).read (Elt F) f = X from (read_all M.view h0 inb f).trans hf]
  iapply Hk
  iexists f; isplitr; · ipureintro; exact hf
  iexact H

/-- A load of rows of a memref, those rows held. -/
theorem load_rows (M : Memref sig .tc cs s e) {off off' size : Fin s.rank → Nat} (h : off = off') {inb : ∀ a, off a + size a ≤ s.size a}
    {inb' : ∀ a, off' a + size a ≤ s.size a} {h1 : ∀ a, (Rect.unit off' size inb').stride a = 1}
    {hl : M.view.LoadsAt (Rect.unit off size inb).toLoadRect} {q : PosShare TreeShare} {X : (⟨s.rank, size⟩ : Shape).Idx → Elt F e}
    {k : ((⟨s.rank, size⟩ : Shape).Idx → Elt F e) → Prog (TpuEff nD τ sig (Elt F) Λ₀ .tc) α} {Q : α → sProp 𝕄} :
    (owns (c : Thread nD τ) (M.slice (Rect.unit off' size inb') h1) q X : sProp 𝕄)
      ⊢ iprop((owns (c : Thread nD τ) (M.slice (Rect.unit off' size inb') h1) q X -∗ runs c (k X) Q)
          -∗ runs c (.op (.load M (Rect.unit off size inb).toLoadRect hl) k) Q) := by
  subst h
  rw [owns_def]
  iintro ⟨%f, %hf, H⟩ Hk
  iapply (wp_load_rect 𝒱₀ (c : Thread nD τ) none Set.univ (m := M) (r := Rect.unit off size inb) (le_refl _)) $$ H
  iintro H
  rw [show (M.access (Rect.unit off size inb)).read (Elt F) f = X from hf]
  iapply Hk
  iexists f; isplitr; · ipureintro; exact hf
  iexact H

/-- Loads where nothing is known of the contents. -/
theorem load_all_any (M : Memref sig .tc cs s e) {off : Fin s.rank → Nat} (h0 : off = fun _ => 0) {inb : ∀ a, off a + s.size a ≤ s.size a}
    {hl : M.view.LoadsAt (Rect.unit off s.size inb).toLoadRect}
    {k : (s.Idx → Elt F e) → Prog (TpuEff nD τ sig (Elt F) Λ₀ .tc) α} {Q : α → sProp 𝕄} :
    (somewhat c M : sProp 𝕄)
      ⊢ iprop((∀ X, somewhat c M -∗ runs c (k X) Q) -∗ runs c (.op (.load M (Rect.unit off s.size inb).toLoadRect hl) k) Q) := by
  unfold somewhat
  iintro ⟨%X, H⟩ Hk
  iapply (load_all c M h0) $$ H
  iintro H
  iapply Hk
  iexists X; iexact H
theorem load_rows_any (M : Memref sig .tc cs s e) {off off' size : Fin s.rank → Nat} (h : off = off') {inb : ∀ a, off a + size a ≤ s.size a}
    {inb' : ∀ a, off' a + size a ≤ s.size a} {h1 : ∀ a, (Rect.unit off' size inb').stride a = 1}
    {hl : M.view.LoadsAt (Rect.unit off size inb).toLoadRect}
    {k : ((⟨s.rank, size⟩ : Shape).Idx → Elt F e) → Prog (TpuEff nD τ sig (Elt F) Λ₀ .tc) α} {Q : α → sProp 𝕄} :
    (somewhat c (M.slice (Rect.unit off' size inb') h1) : sProp 𝕄)
      ⊢ iprop((∀ X, somewhat c (M.slice (Rect.unit off' size inb') h1) -∗ runs c (k X) Q)
          -∗ runs c (.op (.load M (Rect.unit off size inb).toLoadRect hl) k) Q) := by
  unfold somewhat
  iintro ⟨%X, H⟩ Hk
  iapply (load_rows c M h) $$ H
  iintro H
  iapply Hk
  iexists X; iexact H

/-- A store over a whole memref leaves it at what is stored. -/
theorem store_all (M : Memref sig .tc cs s e) {off : Fin s.rank → Nat} (h0 : off = fun _ => 0) {inb : ∀ a, off a + s.size a ≤ s.size a}
    {w : s.Idx → Elt F e} {hx : (M.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig (Elt F) Λ₀ .tc) α} {Q : α → sProp 𝕄} :
    (somewhat c M : sProp 𝕄)
      ⊢ iprop((owns (c : Thread nD τ) M fullShare w -∗ runs c (k ⟨⟩) Q)
          -∗ runs c (.op (.store M (Rect.unit off s.size inb) w Finset.univ hx hm) k) Q) := by
  unfold somewhat
  simp only [owns_def]
  iintro ⟨%X, %f, %hf, H⟩ Hk
  iapply (wp_store 𝒱₀ (c : Thread nD τ) none Set.univ (m := M) (r := Rect.unit off s.size inb) (Mk := Finset.univ)
    ((View.setOn_subset_set _ _).trans (View.set_slice_subset _ _))) $$ H
  iintro H
  iapply Hk
  iexists ((M.access (Rect.unit off s.size inb)).write (Elt F) f w Finset.univ); isplitr
  · ipureintro
    exact (read_all M.view h0 inb _).symm.trans (View.read_write_univ _ _)
  iexact H

/-- A store over rows of a memref, those rows held, leaves them at what is stored. -/
theorem store_rows (M : Memref sig .tc cs s e) {off off' size : Fin s.rank → Nat} (h : off = off') {inb : ∀ a, off a + size a ≤ s.size a}
    {inb' : ∀ a, off' a + size a ≤ s.size a} {h1 : ∀ a, (Rect.unit off' size inb').stride a = 1}
    {w : (⟨s.rank, size⟩ : Shape).Idx → Elt F e} {hx : (M.access (Rect.unit off size inb)).Stores Finset.univ}
    {hm : (Finset.univ : Finset (Rect.unit off size inb).shape.Idx) = Finset.univ ∨ ∀ a, (Rect.unit off size inb).stride a = 1}
    {k : PUnit → Prog (TpuEff nD τ sig (Elt F) Λ₀ .tc) α} {Q : α → sProp 𝕄} :
    (somewhat c (M.slice (Rect.unit off' size inb') h1) : sProp 𝕄)
      ⊢ iprop((owns (c : Thread nD τ) (M.slice (Rect.unit off' size inb') h1) fullShare w -∗ runs c (k ⟨⟩) Q)
          -∗ runs c (.op (.store M (Rect.unit off size inb) w Finset.univ hx hm) k) Q) := by
  subst h
  unfold somewhat
  simp only [owns_def]
  iintro ⟨%X, %f, %hf, H⟩ Hk
  iapply (wp_store 𝒱₀ (c : Thread nD τ) none Set.univ (m := M) (r := Rect.unit off size inb) (Mk := Finset.univ)
    (View.setOn_subset_set _ _)) $$ H
  iintro H
  iapply Hk
  iexists ((M.access (Rect.unit off size inb)).write (Elt F) f w Finset.univ); isplitr
  · ipureintro
    exact View.read_write_univ _ _
  iexact H

theorem somewhat_of {sp : Space} (M : Memref sig .tc sp s e) (X : s.Idx → Elt F e) :
    (owns (c : Thread nD τ) M fullShare X : sProp 𝕄) ⊢ somewhat c M := by
  unfold somewhat; iintro H; iexists X; iexact H

end Mem

/-! ## The local copies of an expert's matrices -/

section Local

variable (c : Dev nD) {α : Type} {s : Shape} {e : EltTy}

/-- The copy of a part of an array into a buffer under way on semaphore `d`: at its end the buffer holds the part, and
    the array (the rest of which stays here) is whole again. -/
def copying (d : DmaSem sig) (N : ℕ) (src : Memref sig .tc .hbm s e) (dst : Memref sig .tc .vmem s e) (f : Buf (Elt F) (src.view.loc (c : Thread nD τ))) : sProp 𝕄 :=
  iprop(Transfers.Flight countersEmb (c : Thread nD τ) (.dma d) () N
      iprop(owns (c : Thread nD τ) dst fullShare (src.view.read (Elt F) f) ∗ (src.view.loc (c : Thread nD τ) ↦[src.view.set]{fullShare} f))
    ∗ (src.view.loc (c : Thread nD τ) ↦[Finset.univ \ src.view.set]{fullShare} f))

/-- Its start. -/
theorem copy_start {src : Memref sig .tc .hbm s e} {dst : Memref sig .tc .vmem s e} {d : DmaSem sig}
    {hsrc : src.view.WordExact} {hdst : dst.view.WordExact} {hsem : DmaTarget.Typed (nD := nD) .hbm (SemLoc.dma d) (DmaTarget.here (τ := τ) (p := .tc) dst)}
    {k : PUnit → Prog (TpuEff nD τ sig (Elt F) Λ₀ .tc) α} {Q : α → sProp 𝕄} (f : Buf (Elt F) (src.view.loc (c : Thread nD τ)))
    (N : ℕ) (hN : dst.view.dmaCredit = N) (hN0 : 0 < N) :
    iprop((src.view.loc (c : Thread nD τ) ↦{fullShare} f) ∗ somewhat c dst ∗ semVal ((c : Thread nD τ), .dma d) 0)
      ⊢ iprop((copying c d N src dst f -∗ runs c (k ⟨⟩) Q)
          -∗ runs c (.op (.enqueueDma src (.here dst) (SemLoc.dma d) hsrc hdst hsem) k) Q) := by
  unfold somewhat copying
  simp only [owns_def]
  iintro ⟨Hs, ⟨%X, %g, %hg, Hd⟩, Hv⟩ Hk
  ihave Hs' := (pointsTo_split_subset (Finset.subset_univ src.view.set)).1 $$ Hs
  icases Hs' with ⟨Hs, Hr⟩
  iapply (Transfers.wp_dmaLocal countersEmb 𝒱₀ (c : Thread nD τ) none (src := src) (dst := dst) (sm := SemLoc.dma d) () N hN hN0 subset_rfl) $$ [Hs Hd Hv]
  · isplitl [Hs]; · iexact Hs
    isplitl [Hd] <;> iassumption
  iintro Hfl
  iapply Hk
  isplitl [Hfl]
  · iapply (Transfers.Flight_mono countersEmb (c : Thread nD τ) ?_) $$ Hfl
    iintro ⟨Hd, Hs⟩
    isplitl [Hd]
    · iexists (dst.view.write (Elt F) g (src.view.read (Elt F) f) Finset.univ); isplitr
      · ipureintro; exact View.read_write_univ _ _
      iexact Hd
    iexact Hs
  iexact Hr

/-- Its wait, for a device that owes `ks`. -/
theorem copy_wait {src : Memref sig .tc .hbm s e} {dst : Memref sig .tc .vmem s e} {d : DmaSem sig}
    {s' : Shape} {e' : EltTy} {sp' : Space} {srcw : Memref sig .tc sp' s' e'}
    {hsrc : srcw.view.WordExact} {hdst : dst.view.WordExact}
    {k : PUnit → Prog (TpuEff nD τ sig (Elt F) Λ₀ .tc) α} {Q : α → sProp 𝕄} {f : Buf (Elt F) (src.view.loc (c : Thread nD τ))}
    {N : ℕ} (hN : dst.view.dmaCredit = N) {ks : List (Fin 9)} (hks : ∀ k ∈ ks, slev (.dma d) < klev k) :
    iprop(copying c d N src dst f ∗ owing c ks ∗ levAts L lv)
      ⊢ iprop((iprop(owns (c : Thread nD τ) dst fullShare (src.view.read (Elt F) f) ∗ (src.view.loc (c : Thread nD τ) ↦{fullShare} f)
              ∗ semVal ((c : Thread nD τ), .dma d) 0 ∗ owing c ks) -∗ runs c (k ⟨⟩) Q)
          -∗ runs c (.op (.waitDma2 d srcw dst hsrc hdst) k) Q) := by
  unfold copying owing
  iintro ⟨⟨Hfl, Hr⟩, ⟨%W, HO⟩, Hlev⟩ Hk
  iapply (Transfers.wp_waitLocalO countersEmb 𝒱₀ (c : Thread nD τ) none () hN) $$ [Hfl HO Hlev]
  · isplitl [Hfl]; · iexact Hfl
    isplitl [HO]; · iexact HO
    iapply (mayWait c (.dma d) ks hks); iexact Hlev
  iintro ⟨⟨Hd, Hs⟩, Hv, HO⟩
  iapply Hk
  isplitl [Hd]; · iexact Hd
  isplitl [Hs Hr]
  · iapply (pointsTo_split_subset (Finset.subset_univ src.view.set)).2
    isplitl [Hs] <;> iassumption
  isplitl [Hv]; · iexact Hv
  iexists _; iexact HO

end Local

/-! ## The exchange -/

/-- The invariants of all the cells, under the names `K`, and that all are at round 0. -/
def records (K : Dev nD × Fin 9 → ℕ) : sProp 𝕄 :=
  iprop((bigSep Finset.univ fun ck : Dev nD × Fin 9 => cellInv EX (sched m) (K ck) (kcell ck))
    ∗ bigSep Finset.univ fun ck : Dev nD × Fin 9 => reached EX (kcell ck) 0)
instance records_persistent (K : Dev nD × Fin 9 → ℕ) : BI.Persistent (records m K) := by unfold records; infer_instance

theorem inv_at (K : Dev nD × Fin 9 → ℕ) (ck : Dev nD × Fin 9) : records m K ⊢ cellInv EX (sched m) (K ck) (kcell ck) := by
  unfold records
  iintro ⟨H, -⟩
  iapply (show (bigSep Finset.univ fun ck : Dev nD × Fin 9 => (cellInv EX (sched m) (K ck) (kcell ck) : sProp 𝕄)) ⊢ cellInv EX (sched m) (K ck) (kcell ck)
    from bigSep_elim (Finset.mem_univ ck)) $$ H
theorem reached_at (K : Dev nD × Fin 9 → ℕ) (ck : Dev nD × Fin 9) : records m K ⊢ reached EX (kcell ck) 0 := by
  unfold records
  iintro ⟨-, H⟩
  iapply (show (bigSep Finset.univ fun ck : Dev nD × Fin 9 => (reached EX (kcell ck) 0 : sProp 𝕄)) ⊢ reached EX (kcell ck) 0
    from bigSep_elim (Finset.mem_univ ck)) $$ H

section Exchange

variable (K : Dev nD × Fin 9 → ℕ) (c : Dev nD) {α : Type}

/-- A transfer to the partner: the source at share `q` will come back through semaphore `ks` of `c`, the destination, at the
    source's contents, goes to the partner through its semaphore `kr`. -/
theorem send_step (ks kr : Fin 9) {sp sp' : Space} {s : Shape} {e : EltTy} {src : Memref sig .tc sp s e} (n : Dev nD) (hn : n = peer c)
    {dst : Memref sig (Dev.tc n : Thread nD τ).2.kind sp' s e} {dst' : Memref sig .tc sp' s e} (hd : dst = dst')
    {hsc : dst.view.ref.isScScratch = false} {dS dR : DmaSem sig}
    (hS : csem ks = .dma dS) (hR : csem kr = .dma dR)
    {hsrc : src.view.WordExact} {hdst : dst.view.WordExact}
    {hsem : DmaTarget.Typed sp (.dma dR) (.remote (Dev.tc n : Thread nD τ) dst (.dma dS) hsc)}
    {k : PUnit → Prog (TpuEff nD τ sig (Elt F) Λ₀ .tc) α} {Q : α → sProp 𝕄} {q : PosShare TreeShare} {X : s.Idx → Elt F e}
    (hNS : dst'.view.dmaCredit = amt ks) (hNR : dst'.view.dmaCredit = amt kr)
    (hpayS : (owns (c : Thread nD τ) src q X : sProp 𝕄) ⊢ pay m c ks)
    (hpayR : (owns (peer c : Thread nD τ) dst' fullShare X : sProp 𝕄) ⊢ pay m (peer c) kr)
    {rest : List (Fin 9)} :
    iprop(records m K ∗ owns (c : Thread nD τ) src q X ∗ somewhat (peer c) dst' ∗ owing c (kr :: rest)
        ∗ dutyTok EX (kcell (c, ks)) 0 () ∗ dutyTok EX (kcell (peer c, kr)) 0 ())
      ⊢ iprop(((cred (tallyAt (kcell (c, ks)) () (amt ks)) ∗ owing c rest) -∗ runs c (k ⟨⟩) Q)
          -∗ runs c (.op (.enqueueDma src (.remote (Dev.tc n : Thread nD τ) dst (.dma dS) hsc) (.dma dR) hsrc hdst hsem) k) Q) := by
  subst hn
  subst hd
  unfold somewhat owing
  simp only [owns_def]
  iintro ⟨#HK, ⟨%f, %hf, Hs⟩, ⟨%Y, %g, %hg, Hd⟩, ⟨%W, HO⟩, HtS, HtR⟩ Hk
  have e := hNS.symm.trans hNR
  have hS' : ((c : Thread nD τ), SemLoc.dma dS) = kcell (c, ks) := by rw [← hS]
  have hR' : ((peer c : Thread nD τ), SemLoc.dma dR) = kcell (peer c, kr) := by rw [← hR]
  iapply (Rounds.wp_send_pointsTo 𝒱₀ EX (sched m) (c : Thread nD τ) none (κ₁ := K (c, ks)) (κ₂ := K (peer c, kr))
    (r₁ := 0) (r₂ := 0) (d₁ := ()) (d₂ := ()) (fd := g) (fs := f) (q := q)
    (by rw [hS', duties_eq]; exact Finset.mem_singleton_self _) (by rw [hR', duties_eq]; exact Finset.mem_singleton_self _)
    (sem := SemLoc.dma dR) (sS := SemLoc.dma dS) (src := src) (dst := dst) () () (amt ks) hNS (by rw [hS', amount_eq]) (by rw [hR', amount_eq]; exact e.symm) (due c rest)
    (by rw [hR', e]) (W := W)
    (by rw [hS', payload_eq]; exact (owns_intro c src q f hf).trans hpayS)
    (by rw [hR', payload_eq]; exact (owns_intro (peer c) dst fullShare _ ((View.read_write_univ _ _).trans hf)).trans hpayR)) $$ [Hs Hd HO HtS HtR]
  · rw [hS', hR']
    isplitr; · iapply (inv_at m K (c, ks)); iexact HK
    isplitr; · iapply (inv_at m K (peer c, kr)); iexact HK
    isplitl [Hs]; · iexact Hs
    isplitl [Hd]; · iexact Hd
    isplitl [HO]; · iexact HO
    isplitl [HtS]; · iexact HtS
    isplitr; · iapply (reached_at m K (c, ks)); iexact HK
    isplitl [HtR]; · iexact HtR
    iapply (reached_at m K (peer c, kr)); iexact HK
  rw [hS']
  iintro ⟨Hc, HO⟩
  iapply Hk
  isplitl [Hc]; · iexact Hc
  iexists _; iexact HO

/-- The wait for a transfer, for a device that owes `rest`: what its credit hands over, and the cell past its one round. -/
theorem wait_step (k : Fin 9) {s s' : Shape} {e e' : EltTy} {sp sp' : Space} {d : DmaSem sig} {srcw : Memref sig .tc sp' s' e'} {dst : Memref sig .tc sp s e}
    (hk : csem k = .dma d) (hN : dst.view.dmaCredit = amt k)
    {hsrc : srcw.view.WordExact} {hdst : dst.view.WordExact} {kk : PUnit → Prog (TpuEff nD τ sig (Elt F) Λ₀ .tc) α} {Q : α → sProp 𝕄}
    {rest : List (Fin 9)} (hks : ∀ k' ∈ rest, klev k < klev k') :
    iprop(records m K ∗ cred (tallyAt (kcell (c, k)) () (amt k)) ∗ owing c rest ∗ levAts L lv ∗ atPos EX (kcell (c, k)) 0 ∅ 0)
      ⊢ iprop((iprop(owing c rest ∗ atPos EX (kcell (c, k)) 1 ∅ 0 ∗ pay m c k) -∗ runs c (kk ⟨⟩) Q)
          -∗ runs c (.op (.waitDma2 d srcw dst hsrc hdst) kk) Q) := by
  unfold owing
  iintro ⟨#HK, Hc, ⟨%W, HO⟩, Hlev, Hat⟩ Hk
  have hk' : ((c : Thread nD τ), SemLoc.dma d) = kcell (c, k) := by rw [← hk]
  have hmw := mayWait (F := F) c (.dma d) rest (by rw [← hk, slev_csem]; exact hks)
  iapply (Rounds.wp_wait_rest_token 𝒱₀ EX (sched m) (c : Thread nD τ) none (κ := K (c, k))
      (wpE_waitDma2_eq 𝒱₀ (c : Thread nD τ) none Set.univ) (Set.mem_univ _) () (O := due c rest) (W := W) (R := 0) (m := 0) (T := ∅)
      (by rw [Nat.zero_add, hk', expect_eq, hN])) $$ [Hc HO Hlev Hat]
  · rw [hk', hN]
    isplitr; · iapply (inv_at m K (c, k)); iexact HK
    isplitl [Hc]; · iexact Hc
    isplitl [HO]; · iexact HO
    isplitl [Hlev]; · iapply hmw; iexact Hlev
    iexact Hat
  rw [hk', rest_eq]
  iintro ⟨HO, Hat, -, Hp⟩
  iapply Hk
  isplitl [HO]; · iexists _; iexact HO
  isplitl [Hat] <;> iassumption

/-- The signal to the partner's barrier: it pays the partner with the places of `c`'s memory the partner will write. -/
theorem signal_step (n : Dev nD) (hn : n = peer c) {k' : ℕ} (hk : k' = 1) {rest : List (Fin 9)}
    {kk : PUnit → Prog (TpuEff nD τ sig (Elt F) Λ₀ .tc) α} {Q : α → sProp 𝕄} :
    iprop(records m K ∗ owing c (0 :: rest) ∗ dutyTok EX (kcell (peer c, 0)) 0 () ∗ pay m (peer c) 0)
      ⊢ iprop((owing c rest -∗ runs c (kk ⟨⟩) Q)
          -∗ runs c (.op (.semSignal (Dev.tc n : Thread nD τ) barS k') kk) Q) := by
  subst hn
  subst hk
  unfold owing
  iintro ⟨#HK, ⟨%W, HO⟩, Ht, Hp⟩ Hk
  iapply (Rounds.wp_signal 𝒱₀ EX (sched m) (c : Thread nD τ) none (dst := (peer c : Thread nD τ)) (κ := K (peer c, 0))
      (d := ()) (by rw [duties_eq m (peer c) 0]; exact Finset.mem_singleton_self _) (amount_eq m (peer c) 0 0 ()) () (due c rest) rfl)
    $$ [HO Ht Hp]
  · isplitr; · iapply (inv_at m K (peer c, 0)); iexact HK
    isplitl [HO]; · iexact HO
    isplitl [Ht]; · iexact Ht
    isplitl [Hp]; · rw [payload_eq m (peer c) 0]; iexact Hp
    iapply (reached_at m K (peer c, 0)); iexact HK
  iintro HO
  iapply Hk
  iexists _; iexact HO

/-- The wait on the barrier. -/
theorem barrier_step {k' : ℕ} (hk : k' = 1) {rest : List (Fin 9)} (hks : ∀ k ∈ rest, 1 < klev k)
    {kk : PUnit → Prog (TpuEff nD τ sig (Elt F) Λ₀ .tc) α} {Q : α → sProp 𝕄} :
    iprop(records m K ∗ cred (tallyAt (kcell (c, 0)) () (amt 0)) ∗ owing c rest ∗ levAts L lv ∗ atPos EX (kcell (c, 0)) 0 ∅ 0)
      ⊢ iprop((iprop(owing c rest ∗ atPos EX (kcell (c, 0)) 1 ∅ 0 ∗ pay m c 0) -∗ runs c (kk ⟨⟩) Q)
          -∗ runs c (.op (.semWait barS k') kk) Q) := by
  subst hk
  unfold owing
  iintro ⟨#HK, Hc, ⟨%W, HO⟩, Hlev, Hat⟩ Hk
  have hmw := mayWait (F := F) c (csem 0) rest (by rw [slev_csem]; exact hks)
  iapply (Rounds.wp_wait_rest_token 𝒱₀ EX (sched m) (c : Thread nD τ) none (κ := K (c, 0))
      (wpE_semWait_eq 𝒱₀ (c : Thread nD τ) none Set.univ) (Set.mem_univ _) () (O := due c rest) (W := W) (R := 0) (m := 0) (T := ∅)
      (by rw [Nat.zero_add]; exact (expect_eq m c 0).symm)) $$ [Hc HO Hlev Hat]
  · isplitr; · iapply (inv_at m K (c, 0)); iexact HK
    isplitl [Hc]; · iexact Hc
    isplitl [HO]; · iexact HO
    isplitl [Hlev]; · iapply hmw; iexact Hlev
    iexact Hat
  rw [show bigSep ((sched m).duties ((c : Thread nD τ), SemLoc.reg barS) 0 \ ∅) (fun d => (sched m).payload ((c : Thread nD τ), SemLoc.reg barS) 0 d) = pay m c 0 from rest_eq m c 0]
  iintro ⟨HO, Hat, -, Hp⟩
  iapply Hk
  isplitl [HO]; · iexists _; iexact HO
  isplitl [Hat] <;> iassumption

/-- A cell past its round closes: its counter, at zero, is the device's again. -/
theorem close_step (k : Fin 9) :
    iprop(records m K ∗ atPos EX (kcell (c, k)) 1 ∅ 0) ⊢ |={Set.univ}=> (semVal (kcell (c, k)) 0 : sProp 𝕄) := by
  iintro ⟨#HK, Hat⟩
  iapply (Rounds.cell_close EX (sched m) (Set.mem_univ (K (c, k))) (fun h => h) (R := 1) (duties_later m (kcell (c, k)))) $$ [Hat]
  isplitr; · iapply (inv_at m K (c, k)); iexact HK
  iexact Hat

end Exchange

end Cert.Moe
end
-- ==== Proof.BodyA.lean ====
/-
# The body's first half: the handshake, the tokens and routers exchanged, the weights, expert 0

The kernel's body comes in eleven parts. A lemma per part says what the part needs and what it leaves; each is followed
by any program `kk` (the rest of the body).
-/
module

public import proofs.«01_k».proof.Proof.Steps
public import Idealize.ShloMosaic.Lib.MemrefSat

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-! ## An expert's matrices in memory -/

/-- The device's two arrays of expert matrices, as launched, and the two semaphores of the local copies at rest. -/
def atRest (c : Dev nD) : sProp 𝕄 :=
  iprop(((c : Thread nD τ).loc main_arg2 ↦{fullShare} m ((c : Thread nD τ).loc main_arg2)) ∗ ((c : Thread nD τ).loc main_arg3 ↦{fullShare} m ((c : Thread nD τ).loc main_arg3))
    ∗ semVal ((c : Thread nD τ), .dma (locS 0)) 0 ∗ semVal ((c : Thread nD τ), .dma (locS 1)) 0)
/-- No copy under way. -/
def idle (c : Dev nD) : sProp 𝕄 := iprop(atRest m c ∗ somewhat c aM ∗ somewhat c bM)
/-- Expert `e`'s matrices in the two buffers. -/
def ready (c : Dev nD) (e : Fin 4) : sProp 𝕄 :=
  iprop(atRest m c ∗ owns (c : Thread nD τ) aM fullShare (w1 m c e) ∗ owns (c : Thread nD τ) bM fullShare (w2 m c e))
/-- Both on their way there. -/
def busy (c : Dev nD) : Fin 4 → sProp 𝕄
  | 0 => iprop(copying c (locS 0) aM.view.dmaCredit (w1At 0) aM (m ((c : Thread nD τ).loc main_arg2))
      ∗ copying c (locS 1) bM.view.dmaCredit (w2At 0) bM (m ((c : Thread nD τ).loc main_arg3)))
  | 1 => iprop(copying c (locS 0) aM.view.dmaCredit (w1At 1) aM (m ((c : Thread nD τ).loc main_arg2))
      ∗ copying c (locS 1) bM.view.dmaCredit (w2At 1) bM (m ((c : Thread nD τ).loc main_arg3)))
  | 2 => iprop(copying c (locS 0) aM.view.dmaCredit (w1At 2) aM (m ((c : Thread nD τ).loc main_arg2))
      ∗ copying c (locS 1) bM.view.dmaCredit (w2At 2) bM (m ((c : Thread nD τ).loc main_arg3)))
  | 3 => iprop(copying c (locS 0) aM.view.dmaCredit (w1At 3) aM (m ((c : Thread nD τ).loc main_arg2))
      ∗ copying c (locS 1) bM.view.dmaCredit (w2At 3) bM (m ((c : Thread nD τ).loc main_arg3)))

theorem busy_in0 (c : Dev nD) : iprop(copying c (locS 0) aM.view.dmaCredit (w1At 0) aM (m ((c : Thread nD τ).loc main_arg2))
      ∗ copying c (locS 1) bM.view.dmaCredit (w2At 0) bM (m ((c : Thread nD τ).loc main_arg3))) ⊢ busy m c 0 := .rfl
theorem busy_out0 (c : Dev nD) : busy m c 0 ⊢ iprop(copying c (locS 0) aM.view.dmaCredit (w1At 0) aM (m ((c : Thread nD τ).loc main_arg2))
      ∗ copying c (locS 1) bM.view.dmaCredit (w2At 0) bM (m ((c : Thread nD τ).loc main_arg3))) := .rfl
theorem ready_in0 (c : Dev nD) :
    iprop((((w1At 0).view.loc (c : Thread nD τ) ↦{fullShare} m ((c : Thread nD τ).loc main_arg2)) ∗ ((w2At 0).view.loc (c : Thread nD τ) ↦{fullShare} m ((c : Thread nD τ).loc main_arg3))
        ∗ semVal ((c : Thread nD τ), .dma (locS 0)) 0 ∗ semVal ((c : Thread nD τ), .dma (locS 1)) 0)
      ∗ owns (c : Thread nD τ) aM fullShare ((w1At 0).view.read (Elt F) (m ((c : Thread nD τ).loc main_arg2)))
      ∗ owns (c : Thread nD τ) bM fullShare ((w2At 0).view.read (Elt F) (m ((c : Thread nD τ).loc main_arg3)))) ⊢ ready m c 0 := .rfl

theorem busy_in1 (c : Dev nD) : iprop(copying c (locS 0) aM.view.dmaCredit (w1At 1) aM (m ((c : Thread nD τ).loc main_arg2))
      ∗ copying c (locS 1) bM.view.dmaCredit (w2At 1) bM (m ((c : Thread nD τ).loc main_arg3))) ⊢ busy m c 1 := .rfl
theorem busy_out1 (c : Dev nD) : busy m c 1 ⊢ iprop(copying c (locS 0) aM.view.dmaCredit (w1At 1) aM (m ((c : Thread nD τ).loc main_arg2))
      ∗ copying c (locS 1) bM.view.dmaCredit (w2At 1) bM (m ((c : Thread nD τ).loc main_arg3))) := .rfl
theorem ready_in1 (c : Dev nD) :
    iprop((((w1At 1).view.loc (c : Thread nD τ) ↦{fullShare} m ((c : Thread nD τ).loc main_arg2)) ∗ ((w2At 1).view.loc (c : Thread nD τ) ↦{fullShare} m ((c : Thread nD τ).loc main_arg3))
        ∗ semVal ((c : Thread nD τ), .dma (locS 0)) 0 ∗ semVal ((c : Thread nD τ), .dma (locS 1)) 0)
      ∗ owns (c : Thread nD τ) aM fullShare ((w1At 1).view.read (Elt F) (m ((c : Thread nD τ).loc main_arg2)))
      ∗ owns (c : Thread nD τ) bM fullShare ((w2At 1).view.read (Elt F) (m ((c : Thread nD τ).loc main_arg3)))) ⊢ ready m c 1 := .rfl

theorem busy_in2 (c : Dev nD) : iprop(copying c (locS 0) aM.view.dmaCredit (w1At 2) aM (m ((c : Thread nD τ).loc main_arg2))
      ∗ copying c (locS 1) bM.view.dmaCredit (w2At 2) bM (m ((c : Thread nD τ).loc main_arg3))) ⊢ busy m c 2 := .rfl
theorem busy_out2 (c : Dev nD) : busy m c 2 ⊢ iprop(copying c (locS 0) aM.view.dmaCredit (w1At 2) aM (m ((c : Thread nD τ).loc main_arg2))
      ∗ copying c (locS 1) bM.view.dmaCredit (w2At 2) bM (m ((c : Thread nD τ).loc main_arg3))) := .rfl
theorem ready_in2 (c : Dev nD) :
    iprop((((w1At 2).view.loc (c : Thread nD τ) ↦{fullShare} m ((c : Thread nD τ).loc main_arg2)) ∗ ((w2At 2).view.loc (c : Thread nD τ) ↦{fullShare} m ((c : Thread nD τ).loc main_arg3))
        ∗ semVal ((c : Thread nD τ), .dma (locS 0)) 0 ∗ semVal ((c : Thread nD τ), .dma (locS 1)) 0)
      ∗ owns (c : Thread nD τ) aM fullShare ((w1At 2).view.read (Elt F) (m ((c : Thread nD τ).loc main_arg2)))
      ∗ owns (c : Thread nD τ) bM fullShare ((w2At 2).view.read (Elt F) (m ((c : Thread nD τ).loc main_arg3)))) ⊢ ready m c 2 := .rfl

theorem busy_in3 (c : Dev nD) : iprop(copying c (locS 0) aM.view.dmaCredit (w1At 3) aM (m ((c : Thread nD τ).loc main_arg2))
      ∗ copying c (locS 1) bM.view.dmaCredit (w2At 3) bM (m ((c : Thread nD τ).loc main_arg3))) ⊢ busy m c 3 := .rfl
theorem busy_out3 (c : Dev nD) : busy m c 3 ⊢ iprop(copying c (locS 0) aM.view.dmaCredit (w1At 3) aM (m ((c : Thread nD τ).loc main_arg2))
      ∗ copying c (locS 1) bM.view.dmaCredit (w2At 3) bM (m ((c : Thread nD τ).loc main_arg3))) := .rfl
theorem ready_in3 (c : Dev nD) :
    iprop((((w1At 3).view.loc (c : Thread nD τ) ↦{fullShare} m ((c : Thread nD τ).loc main_arg2)) ∗ ((w2At 3).view.loc (c : Thread nD τ) ↦{fullShare} m ((c : Thread nD τ).loc main_arg3))
        ∗ semVal ((c : Thread nD τ), .dma (locS 0)) 0 ∗ semVal ((c : Thread nD τ), .dma (locS 1)) 0)
      ∗ owns (c : Thread nD τ) aM fullShare ((w1At 3).view.read (Elt F) (m ((c : Thread nD τ).loc main_arg2)))
      ∗ owns (c : Thread nD τ) bM fullShare ((w2At 3).view.read (Elt F) (m ((c : Thread nD τ).loc main_arg3)))) ⊢ ready m c 3 := .rfl

theorem ready_idle (c : Dev nD) (e : Fin 4) : ready m c e ⊢ idle m c := by
  unfold ready idle
  iintro ⟨H, Ha, Hb⟩
  isplitl [H]; · iexact H
  isplitl [Ha]
  · iapply (somewhat_of c aM _) $$ Ha
  · iapply (somewhat_of c bM _) $$ Hb

theorem slev_loc (i : Fin 2) : slev (.dma (locS i)) = 0 := by unfold slev; rw [kindOf_loc]
theorem hz2 : (![0, 0] : Fin 2 → Nat) = fun _ => 0 := funext fun a => by fin_cases a <;> rfl

theorem ent_of_eq {P Q : sProp 𝕄} (h : P = Q) : P ⊢ Q := h ▸ .rfl
theorem off1_eq_off2 (c : Dev nD) : k0_off1 c = k0_off2 c := rfl
theorem off3_eq_off4 (c : Dev nD) : k0_off3 c = k0_off4 c := rfl

section Pair

variable (c : Dev nD) {α : Type} {s1 : Memref sig .tc .hbm S1024x2048 .f32} {s2 : Memref sig .tc .hbm S2048x1024 .f32}
  (f1 : Buf (Elt F) (s1.view.loc (c : Thread nD τ))) (f2 : Buf (Elt F) (s2.view.loc (c : Thread nD τ)))

/-- Both copies of an expert's matrices started. -/
theorem start_two {h1 : s1.view.WordExact} {h2 : aM.view.WordExact} {h3 : DmaTarget.Typed (nD := nD) .hbm (SemLoc.dma (locS 0)) (DmaTarget.here (τ := τ) (p := .tc) aM)}
    {h4 : s2.view.WordExact} {h5 : bM.view.WordExact} {h6 : DmaTarget.Typed (nD := nD) .hbm (SemLoc.dma (locS 1)) (DmaTarget.here (τ := τ) (p := .tc) bM)}
    {k : PUnit → Prog (TpuEff nD τ sig (Elt F) Λ₀ .tc) α} {Q : α → sProp 𝕄} :
    iprop((((s1.view.loc (c : Thread nD τ) ↦{fullShare} f1) ∗ (s2.view.loc (c : Thread nD τ) ↦{fullShare} f2)
        ∗ semVal ((c : Thread nD τ), .dma (locS 0)) 0 ∗ semVal ((c : Thread nD τ), .dma (locS 1)) 0)) ∗ somewhat c aM ∗ somewhat c bM)
      ⊢ iprop((iprop(copying c (locS 0) aM.view.dmaCredit s1 aM f1 ∗ copying c (locS 1) bM.view.dmaCredit s2 bM f2) -∗ runs c (k ⟨⟩) Q)
          -∗ runs c (.op (.enqueueDma s1 (.here aM) (SemLoc.dma (locS 0)) h1 h2 h3) fun _ => .op (.enqueueDma s2 (.here bM) (SemLoc.dma (locS 1)) h4 h5 h6) k) Q) := by
  iintro ⟨⟨H1, H2, Hv1, Hv2⟩, Ha, Hb⟩ Hk
  iapply (copy_start c f1 aM.view.dmaCredit rfl (View.dmaCredit_pos _ (by decide))) $$ [H1 Ha Hv1]
  · isplitl [H1]; · iexact H1
    isplitl [Ha] <;> iassumption
  iintro HA
  iapply (copy_start c f2 bM.view.dmaCredit rfl (View.dmaCredit_pos _ (by decide))) $$ [H2 Hb Hv2]
  · isplitl [H2]; · iexact H2
    isplitl [Hb] <;> iassumption
  iintro HB
  iapply Hk
  isplitl [HA] <;> iassumption

/-- Both awaited, by a device that owes `ks`. -/
theorem wait_two {s1' : Memref sig .tc .hbm S1024x2048 .f32} {s2' : Memref sig .tc .hbm S2048x1024 .f32}
    {h1 : s1'.view.WordExact} {h2 : aM.view.WordExact} {h4 : s2'.view.WordExact} {h5 : bM.view.WordExact} {ks : List (Fin 9)} (hks : ∀ k ∈ ks, 0 < klev k)
    {k : PUnit → Prog (TpuEff nD τ sig (Elt F) Λ₀ .tc) α} {Q : α → sProp 𝕄} :
    iprop((copying c (locS 0) aM.view.dmaCredit s1 aM f1 ∗ copying c (locS 1) bM.view.dmaCredit s2 bM f2) ∗ owing c ks ∗ levAts L lv)
      ⊢ iprop((iprop((((s1.view.loc (c : Thread nD τ) ↦{fullShare} f1) ∗ (s2.view.loc (c : Thread nD τ) ↦{fullShare} f2)
            ∗ semVal ((c : Thread nD τ), .dma (locS 0)) 0 ∗ semVal ((c : Thread nD τ), .dma (locS 1)) 0)
              ∗ owns (c : Thread nD τ) aM fullShare (s1.view.read (Elt F) f1) ∗ owns (c : Thread nD τ) bM fullShare (s2.view.read (Elt F) f2)) ∗ owing c ks) -∗ runs c (k ⟨⟩) Q)
          -∗ runs c (.op (.waitDma2 (locS 0) s1' aM h1 h2) fun _ => .op (.waitDma2 (locS 1) s2' bM h4 h5) k) Q) := by
  iintro ⟨⟨HA, HB⟩, HO, #Hlev⟩ Hk
  iapply (copy_wait c (src := s1) (dst := aM) (d := locS 0) (f := f1) rfl (ks := ks) (by rw [slev_loc]; exact hks)) $$ [HA HO]
  · isplitl [HA]; · iexact HA
    isplitl [HO]; · iexact HO
    iexact Hlev
  iintro ⟨Ha, H1, Hv1, HO⟩
  iapply (copy_wait c (src := s2) (dst := bM) (d := locS 1) (f := f2) rfl (ks := ks) (by rw [slev_loc]; exact hks)) $$ [HB HO]
  · isplitl [HB]; · iexact HB
    isplitl [HO]; · iexact HO
    iexact Hlev
  iintro ⟨Hb, H2, Hv2, HO⟩
  iapply Hk
  isplitr [HO]
  · isplitl [H1 H2 Hv1 Hv2]
    · isplitl [H1]; · iexact H1
      isplitl [H2]; · iexact H2
      isplitl [Hv1] <;> iassumption
    isplitl [Ha] <;> iassumption
  iexact HO

end Pair

/-! ## What the partner is handed, from here -/

theorem pay5 (c : Dev nD) : pay m (peer c) 5 = owns (peer c : Thread nD τ) (gRows c) fullShare (xh m c) := by
  unfold pay; dsimp only; rw [peer_peer]
theorem pay6 (c : Dev nD) : pay m (peer c) 6 = owns (peer c : Thread nD τ) qM fullShare (rB m c) := by
  unfold pay; dsimp only; rw [peer_peer]
theorem pay7 (c : Dev nD) : pay m (peer c) 7 = owns (peer c : Thread nD τ) (wRows c) fullShare (theirs m c) := by
  unfold pay; dsimp only; rw [peer_peer]
theorem pay8 (c : Dev nD) : pay m (peer c) 8 = owns (peer c : Thread nD τ) prM fullShare (p3 m c) := by
  unfold pay; dsimp only; rw [peer_peer]

/-! ## The parts -/

section Parts

variable (K : Dev nD × Fin 9 → ℕ) (c : Dev nD) {α : Type}

/-- Part 1: the first expert's matrices are sent for, and the two devices meet at the barrier. -/
theorem part1 (kk : (Σ' (d0 : Dev nD) (v2 : BitVec 32) (v5 : BitVec 32) (v8 : BitVec 32) (v9 : BitVec 32) (v25 : BitVec 32), BitVec 32) → Prog (TpuEff nD τ sig (Elt F) Λ₀ .tc) α) {Q : α → sProp 𝕄} :
    iprop(records m K
        ∗ levAts L lv
        ∗ idle m c
        ∗ owing c [0, 5, 6, 7, 8]
        ∗ dutyTok EX (kcell (peer c, 0)) 0 ()
        ∗ pay m (peer c) 0
        ∗ cred (tallyAt (kcell (c, 0)) () (amt 0))
        ∗ atPos EX (kcell (c, 0)) 0 ∅ 0)
      ⊢ iprop((iprop(busy m c 0 ∗ owing c [5, 6, 7, 8] ∗ atPos EX (kcell (c, 0)) 1 ∅ 0 ∗ pay m c 0) -∗ runs c (kk ⟨c, Scalar.remsi (Scalar.divsi c.word 8#32) 2#32, yw c, Scalar.remsi (Scalar.divsi c.word 1#32) 4#32, Scalar.subi 1#32 (yw c), Scalar.muli (yw c) 512#32, Scalar.muli (Scalar.subi 1#32 (yw c)) 512#32⟩) Q)
          -∗ runs c (k0_part1 (F := F) xM (Memref.isWhole_whole _) rM (Memref.isWhole_whole _) w1M (Memref.isWhole_whole _) w2M (Memref.isWhole_whole _) oM (Memref.isWhole_whole _) gM (Memref.isWhole_whole _)
          qM (Memref.isWhole_whole _) wM (Memref.isWhole_whole _) vM (Memref.isWhole_whole _) psM (Memref.isWhole_whole _) prM (Memref.isWhole_whole _) paM (Memref.isWhole_whole _)
          aM (Memref.isWhole_whole _) bM (Memref.isWhole_whole _) cc0_scratch9 cc0_scratch10 cc0_scratch11 >>= kk) Q) := by
  rw [k0_part1_eq_skeleton]; unfold k0_part1_skel
  simp only [semSignalWord, semWaitWord, Prog.lift, Prog.bind_op, Prog.bind_ret, Prog.pure_eq_ret, wp_deviceId]
  iintro ⟨#HK, #Hlev, Hi, HO, Ht, Hp, Hc, Hat⟩ Hk
  unfold idle atRest
  iapply (start_two c (s1 := w1At 0) (s2 := w2At 0) (m ((c : Thread nD τ).loc main_arg2)) (m ((c : Thread nD τ).loc main_arg3))) $$ Hi
  iintro Hb
  iapply (signal_step m K c _ (dev1_eq c) (by decide) (rest := [5, 6, 7, 8])) $$ [HO Ht Hp]
  · isplitr; · iexact HK
    isplitl [HO]; · iexact HO
    isplitl [Ht] <;> iassumption
  iintro HO
  iapply (barrier_step m K c (by decide) (rest := [5, 6, 7, 8]) (by decide)) $$ [HO Hc Hat]
  · isplitr; · iexact HK
    isplitl [Hc]; · iexact Hc
    isplitl [HO]; · iexact HO
    isplitr; · iexact Hlev
    iexact Hat
  iintro ⟨HO, Hat, Hp⟩
  iapply Hk
  isplitl [Hb]; · iapply (busy_in0 m c) $$ Hb
  isplitl [HO]; · iexact HO
  isplitl [Hat] <;> iassumption

/-- Part 2: the device's tokens go to bf16 and to the partner, with its router block. -/
theorem part2 (v2 v8 v9 v25 : BitVec 32) (kk : PUnit → Prog (TpuEff nD τ sig (Elt F) Λ₀ .tc) α) {Q : α → sProp 𝕄} :
    iprop(records m K
        ∗ owns (c : Thread nD τ) xM fullShare (xB m c)
        ∗ somewhat c (gRows c)
        ∗ owns (c : Thread nD τ) rM fullShare (rB m c)
        ∗ somewhat (peer c) (gRows c)
        ∗ somewhat (peer c) qM
        ∗ owing c [5, 6, 7, 8]
        ∗ dutyTok EX (kcell (c, 1)) 0 ()
        ∗ dutyTok EX (kcell (peer c, 5)) 0 ()
        ∗ dutyTok EX (kcell (c, 2)) 0 ()
        ∗ dutyTok EX (kcell (peer c, 6)) 0 ())
      ⊢ iprop((iprop(owns (c : Thread nD τ) xM fullShare (xB m c) ∗ owns (c : Thread nD τ) (gRows c) fullShare.right (xh m c) ∗ owns (c : Thread nD τ) rM fullShare.right (rB m c) ∗ owing c [7, 8] ∗ cred (tallyAt (kcell (c, 1)) () (amt 1)) ∗ cred (tallyAt (kcell (c, 2)) () (amt 2))) -∗ runs c (kk ⟨⟩) Q)
          -∗ runs c (k0_part2 (F := F) xM (Memref.isWhole_whole _) rM (Memref.isWhole_whole _) w1M (Memref.isWhole_whole _) w2M (Memref.isWhole_whole _) oM (Memref.isWhole_whole _) gM (Memref.isWhole_whole _)
          qM (Memref.isWhole_whole _) wM (Memref.isWhole_whole _) vM (Memref.isWhole_whole _) psM (Memref.isWhole_whole _) prM (Memref.isWhole_whole _) paM (Memref.isWhole_whole _)
          aM (Memref.isWhole_whole _) bM (Memref.isWhole_whole _) cc0_scratch9 cc0_scratch10 cc0_scratch11 c v2 v8 v9 v25 >>= kk) Q) := by
  rw [k0_part2_eq_skeleton]; unfold k0_part2_skel
  simp only [semSignalWord, semWaitWord, Prog.lift, Prog.bind_op, Prog.bind_ret, Prog.pure_eq_ret, wp_deviceId]
  iintro ⟨#HK, Hx, Hg, Hr, Hpg, Hpq, HO, Ht1, Ht5, Ht2, Ht6⟩ Hk
  iapply (load_all c xM hz2) $$ Hx
  iintro Hx
  iapply (load_rows_any c gM (off1_eq_off2 c) (inb' := k0_off2_inb c) (h1 := fun _ => rfl)) $$ Hg
  iintro %X0 Hg
  iapply (store_rows c gM (off1_eq_off2 c) (inb' := k0_off2_inb c) (h1 := fun _ => rfl)) $$ Hg
  iintro Hg
  ihave Hg := (owns_halves (c : Thread nD τ) (gRows c) fullShare (xh m c)).1 $$ Hg
  icases Hg with ⟨HgL, HgR⟩
  iapply (send_step m K c 1 5 (src := gRows c) (dst' := gRows c) _ (dev2_eq c) rfl rfl rfl (q := fullShare.left) (X := xh m c) rfl rfl
    .rfl (ent_of_eq (pay5 m c).symm) (rest := [6, 7, 8])) $$ [HgL Hpg HO Ht1 Ht5]
  · isplitr; · iexact HK
    isplitl [HgL]; · iexact HgL
    isplitl [Hpg]; · iexact Hpg
    isplitl [HO]; · iexact HO
    isplitl [Ht1] <;> iassumption
  iintro ⟨Hc1, HO⟩
  ihave Hr := (owns_halves (c : Thread nD τ) rM fullShare (rB m c)).1 $$ Hr
  icases Hr with ⟨HrL, HrR⟩
  iapply (send_step m K c 2 6 (src := rM) (dst' := qM) _ (dev3_eq c) rfl rfl rfl (q := fullShare.left) (X := rB m c) rfl rfl
    .rfl (ent_of_eq (pay6 m c).symm) (rest := [7, 8])) $$ [HrL Hpq HO Ht2 Ht6]
  · isplitr; · iexact HK
    isplitl [HrL]; · iexact HrL
    isplitl [Hpq]; · iexact Hpq
    isplitl [HO]; · iexact HO
    isplitl [Ht2] <;> iassumption
  iintro ⟨Hc2, HO⟩
  iapply Hk
  isplitl [Hx]; · iexact Hx
  isplitl [HgR]; · iexact HgR
  isplitl [HrR]; · iexact HrR
  isplitl [HO]; · iexact HO
  isplitl [Hc1] <;> iassumption

/-- Part 3: the partner's router block is in; the weights of the device's tokens for all eight experts. -/
theorem part3 (kk : (Σ' (v104 : FVec F S512x4 .f32), FVec F S512x4 .f32) → Prog (TpuEff nD τ sig (Elt F) Λ₀ .tc) α) {Q : α → sProp 𝕄} :
    iprop(records m K
        ∗ levAts L lv
        ∗ owns (c : Thread nD τ) xM fullShare (xB m c)
        ∗ owns (c : Thread nD τ) rM fullShare.right (rB m c)
        ∗ owing c [7, 8]
        ∗ cred (tallyAt (kcell (c, 6)) () (amt 6))
        ∗ atPos EX (kcell (c, 6)) 0 ∅ 0)
      ⊢ iprop((iprop(owns (c : Thread nD τ) xM fullShare (xB m c) ∗ owns (c : Thread nD τ) rM fullShare.right (rB m c) ∗ owns (c : Thread nD τ) qM fullShare (rB m (peer c)) ∗ owing c [7, 8] ∗ atPos EX (kcell (c, 6)) 1 ∅ 0) -∗ runs c (kk ⟨wlo m c, whi m c⟩) Q)
          -∗ runs c (k0_part3 (F := F) xM (Memref.isWhole_whole _) rM (Memref.isWhole_whole _) w1M (Memref.isWhole_whole _) w2M (Memref.isWhole_whole _) oM (Memref.isWhole_whole _) gM (Memref.isWhole_whole _)
          qM (Memref.isWhole_whole _) wM (Memref.isWhole_whole _) vM (Memref.isWhole_whole _) psM (Memref.isWhole_whole _) prM (Memref.isWhole_whole _) paM (Memref.isWhole_whole _)
          aM (Memref.isWhole_whole _) bM (Memref.isWhole_whole _) cc0_scratch9 cc0_scratch10 cc0_scratch11 (yw c) >>= kk) Q) := by
  rw [k0_part3_eq_skeleton]; unfold k0_part3_skel
  simp only [semSignalWord, semWaitWord, Prog.lift, Prog.bind_op, Prog.bind_ret, Prog.pure_eq_ret, wp_deviceId]
  iintro ⟨#HK, #Hlev, Hx, Hr, HO, Hc, Hat⟩ Hk
  iapply (wait_step m K c 6 (srcw := rM) (dst := qM) rfl rfl (rest := [7, 8]) (by decide)) $$ [Hc HO Hat]
  · isplitr; · iexact HK
    isplitl [Hc]; · iexact Hc
    isplitl [HO]; · iexact HO
    isplitr; · iexact Hlev
    iexact Hat
  iintro ⟨HO, Hat, Hq⟩
  unfold pay
  iapply (load_all c xM hz2) $$ Hx
  iintro Hx
  iapply (load_all c rM hz2) $$ Hr
  iintro Hr
  iapply (load_all c qM hz2) $$ Hq
  iintro Hq
  iapply Hk
  isplitl [Hx]; · iexact Hx
  isplitl [Hr]; · iexact Hr
  isplitl [Hq]; · iexact Hq
  isplitl [HO] <;> iassumption

/-- Part 4: the weights are stored, those for the partner's experts sent; the first expert's matrices are in. -/
theorem part4 (v2 v8 v9 v25 : BitVec 32) (kk : (FVec F S1024x2048 .bf16) → Prog (TpuEff nD τ sig (Elt F) Λ₀ .tc) α) {Q : α → sProp 𝕄} :
    iprop(records m K
        ∗ levAts L lv
        ∗ somewhat c (wRows c)
        ∗ somewhat c vM
        ∗ somewhat (peer c) (wRows c)
        ∗ owing c [7, 8]
        ∗ dutyTok EX (kcell (c, 3)) 0 ()
        ∗ dutyTok EX (kcell (peer c, 7)) 0 ()
        ∗ busy m c 0)
      ⊢ iprop((iprop(owns (c : Thread nD τ) (wRows c) fullShare (mine m c) ∗ cred (tallyAt (kcell (c, 3)) () (amt 3)) ∗ owing c [8] ∗ ready m c 0) -∗ runs c (kk (k0_pay7 (w1 m c 0))) Q)
          -∗ runs c (k0_part4 (F := F) xM (Memref.isWhole_whole _) rM (Memref.isWhole_whole _) w1M (Memref.isWhole_whole _) w2M (Memref.isWhole_whole _) oM (Memref.isWhole_whole _) gM (Memref.isWhole_whole _)
          qM (Memref.isWhole_whole _) wM (Memref.isWhole_whole _) vM (Memref.isWhole_whole _) psM (Memref.isWhole_whole _) prM (Memref.isWhole_whole _) paM (Memref.isWhole_whole _)
          aM (Memref.isWhole_whole _) bM (Memref.isWhole_whole _) cc0_scratch9 cc0_scratch10 cc0_scratch11 c v2 (yw c) v8 v9 v25 (wlo m c) (whi m c) >>= kk) Q) := by
  rw [k0_part4_eq_skeleton]; unfold k0_part4_skel
  simp only [semSignalWord, semWaitWord, Prog.lift, Prog.bind_op, Prog.bind_ret, Prog.pure_eq_ret, wp_deviceId]
  iintro ⟨#HK, #Hlev, Hw, Hv, Hpw, HO, Ht3, Ht7, Hb⟩ Hk
  iapply (load_rows_any c wM (off3_eq_off4 c) (inb' := k0_off4_inb c) (h1 := fun _ => rfl)) $$ Hw
  iintro %X0 Hw
  iapply (store_rows c wM (off3_eq_off4 c) (inb' := k0_off4_inb c) (h1 := fun _ => rfl)) $$ Hw
  iintro Hw
  iapply (load_all_any c vM hz2) $$ Hv
  iintro %X1 Hv
  iapply (store_all c vM hz2) $$ Hv
  iintro Hv
  iapply (send_step m K c 3 7 (src := vM) (dst' := wRows c) _ (dev4_eq c) rfl rfl rfl (q := fullShare) (X := theirs m c) rfl rfl
    .rfl (ent_of_eq (pay7 m c).symm) (rest := [8])) $$ [Hv Hpw HO Ht3 Ht7]
  · isplitr; · iexact HK
    isplitl [Hv]; · iexact Hv
    isplitl [Hpw]; · iexact Hpw
    isplitl [HO]; · iexact HO
    isplitl [Ht3] <;> iassumption
  iintro ⟨Hc3, HO⟩
  iapply (wait_two c (s1 := w1At 0) (s2 := w2At 0) (m ((c : Thread nD τ).loc main_arg2)) (m ((c : Thread nD τ).loc main_arg3)) (ks := [8]) (by decide)) $$ [Hb HO]
  · isplitl [Hb]; · iapply (busy_out0 m c) $$ Hb
    isplitl [HO]; · iexact HO
    iexact Hlev
  iintro ⟨HR, HO⟩
  ihave HR := (ready_in0 m c) $$ HR
  unfold ready
  icases HR with ⟨Hrest, Ha, Hb⟩
  iapply (load_all c aM hz2) $$ Ha
  iintro Ha
  iapply Hk
  isplitl [Hw]; · iexact Hw
  isplitl [Hc3]; · iexact Hc3
  isplitl [HO]; · iexact HO
  isplitl [Hrest]; · iexact Hrest
  isplitl [Ha] <;> iassumption

end Parts

end Cert.Moe
end
-- ==== Proof.BodyB.lean ====
/-
# The body's second half: the four experts on the device's own tokens and on its partner's, and the partial sums
exchanged
-/
module

public import proofs.«01_k».proof.Proof.BodyA
public import Idealize.ShloMosaic.Lib.MemrefSat

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

theorem idle_out1 (c : Dev nD) : idle m c
    ⊢ iprop((((w1At 1).view.loc (c : Thread nD τ) ↦{fullShare} m ((c : Thread nD τ).loc main_arg2)) ∗ ((w2At 1).view.loc (c : Thread nD τ) ↦{fullShare} m ((c : Thread nD τ).loc main_arg3))
        ∗ semVal ((c : Thread nD τ), .dma (locS 0)) 0 ∗ semVal ((c : Thread nD τ), .dma (locS 1)) 0) ∗ somewhat c aM ∗ somewhat c bM) := .rfl
theorem idle_out2 (c : Dev nD) : idle m c
    ⊢ iprop((((w1At 2).view.loc (c : Thread nD τ) ↦{fullShare} m ((c : Thread nD τ).loc main_arg2)) ∗ ((w2At 2).view.loc (c : Thread nD τ) ↦{fullShare} m ((c : Thread nD τ).loc main_arg3))
        ∗ semVal ((c : Thread nD τ), .dma (locS 0)) 0 ∗ semVal ((c : Thread nD τ), .dma (locS 1)) 0) ∗ somewhat c aM ∗ somewhat c bM) := .rfl
theorem idle_out3 (c : Dev nD) : idle m c
    ⊢ iprop((((w1At 3).view.loc (c : Thread nD τ) ↦{fullShare} m ((c : Thread nD τ).loc main_arg2)) ∗ ((w2At 3).view.loc (c : Thread nD τ) ↦{fullShare} m ((c : Thread nD τ).loc main_arg3))
        ∗ semVal ((c : Thread nD τ), .dma (locS 0)) 0 ∗ semVal ((c : Thread nD τ), .dma (locS 1)) 0) ∗ somewhat c aM ∗ somewhat c bM) := .rfl
theorem off5_eq (c : Dev nD) : k0_off5 c = k0_off2 (peer c) := off6_eq_off2 c
theorem off6_eq (c : Dev nD) : k0_off6 c = k0_off4 (peer c) := off6_eq_off2 c

section Parts

variable (K : Dev nD × Fin 9 → ℕ) (c : Dev nD) {α : Type}

/-- Part 5: expert 0 on the device's own tokens; expert 1's matrices are sent for. -/
theorem part5 (v2 v8 v9 v25 : BitVec 32) (kk : FVec F S2048x1024 .bf16 → Prog (TpuEff nD τ sig (Elt F) Λ₀ .tc) α) {Q : α → sProp 𝕄} :
    iprop(ready m c 0
        ∗ owns (c : Thread nD τ) (gRows c) fullShare.right (xh m c)
        ∗ owns (c : Thread nD τ) (wRows c) fullShare (mine m c)
        ∗ somewhat c oM)
      ⊢ iprop((iprop(busy m c 1 ∗ owns (c : Thread nD τ) (gRows c) fullShare.right (xh m c) ∗ owns (c : Thread nD τ) (wRows c) fullShare (mine m c) ∗ owns (c : Thread nD τ) oM fullShare (o0 m c)) -∗ runs c (kk (k0_pay8 (w2 m c 0))) Q)
          -∗ runs c (k0_part5 (F := F) xM (Memref.isWhole_whole _) rM (Memref.isWhole_whole _) w1M (Memref.isWhole_whole _) w2M (Memref.isWhole_whole _) oM (Memref.isWhole_whole _) gM (Memref.isWhole_whole _)
          qM (Memref.isWhole_whole _) wM (Memref.isWhole_whole _) vM (Memref.isWhole_whole _) psM (Memref.isWhole_whole _) prM (Memref.isWhole_whole _) paM (Memref.isWhole_whole _)
          aM (Memref.isWhole_whole _) bM (Memref.isWhole_whole _) cc0_scratch9 cc0_scratch10 cc0_scratch11 c v2 v8 v9 v25 (k0_pay7 (w1 m c 0)) >>= kk) Q) := by
  rw [k0_part5_eq_skeleton]; unfold k0_part5_skel
  simp only [semSignalWord, semWaitWord, Prog.lift, Prog.bind_op, Prog.bind_ret, Prog.pure_eq_ret, wp_deviceId]
  iintro ⟨HR, Hg, Hw, Ho⟩ Hk
  unfold ready
  icases HR with ⟨Hrest, Ha, Hb⟩
  iapply (load_all c bM hz2) $$ Hb
  iintro Hb
  iapply (load_rows c gM (off1_eq_off2 c) (inb' := k0_off2_inb c) (h1 := fun _ => rfl)) $$ Hg
  iintro Hg
  iapply (load_rows c wM (off3_eq_off4 c) (inb' := k0_off4_inb c) (h1 := fun _ => rfl)) $$ Hw
  iintro Hw
  iapply (load_all_any c oM hz2) $$ Ho
  iintro %X0 Ho
  iapply (store_all c oM hz2) $$ Ho
  iintro Ho
  ihave Hi := (ready_idle m c 0) $$ [Hrest Ha Hb]
  · unfold ready
    isplitl [Hrest]; · iexact Hrest
    isplitl [Ha] <;> iassumption
  ihave Hi := (idle_out1 m c) $$ Hi
  iapply (start_two c (s1 := w1At 1) (s2 := w2At 1) (m ((c : Thread nD τ).loc main_arg2)) (m ((c : Thread nD τ).loc main_arg3))) $$ Hi
  iintro HB
  ihave HB := (busy_in1 m c) $$ HB
  iapply Hk
  isplitl [HB]; · iexact HB
  isplitl [Hg]; · iexact Hg
  isplitl [Hw]; · iexact Hw
  iexact Ho

/-- Part 6: the partner's tokens and their weights are in; expert 0 on them; expert 1's matrices are in. -/
theorem part6 (v2 v8 v9 v27 : BitVec 32) (kk : PUnit → Prog (TpuEff nD τ sig (Elt F) Λ₀ .tc) α) {Q : α → sProp 𝕄} :
    iprop(records m K
        ∗ levAts L lv
        ∗ cred (tallyAt (kcell (c, 5)) () (amt 5))
        ∗ atPos EX (kcell (c, 5)) 0 ∅ 0
        ∗ cred (tallyAt (kcell (c, 7)) () (amt 7))
        ∗ atPos EX (kcell (c, 7)) 0 ∅ 0
        ∗ owing c [8]
        ∗ somewhat c paM
        ∗ busy m c 1)
      ⊢ iprop((iprop(owing c [8] ∗ atPos EX (kcell (c, 5)) 1 ∅ 0 ∗ atPos EX (kcell (c, 7)) 1 ∅ 0 ∗ owns (c : Thread nD τ) (gRows (peer c)) fullShare (xh m (peer c)) ∗ owns (c : Thread nD τ) (wRows (peer c)) fullShare (theirs m (peer c)) ∗ owns (c : Thread nD τ) paM fullShare (p0 m c) ∗ ready m c 1) -∗ runs c (kk ⟨⟩) Q)
          -∗ runs c (k0_part6 (F := F) xM (Memref.isWhole_whole _) rM (Memref.isWhole_whole _) w1M (Memref.isWhole_whole _) w2M (Memref.isWhole_whole _) oM (Memref.isWhole_whole _) gM (Memref.isWhole_whole _)
          qM (Memref.isWhole_whole _) wM (Memref.isWhole_whole _) vM (Memref.isWhole_whole _) psM (Memref.isWhole_whole _) prM (Memref.isWhole_whole _) paM (Memref.isWhole_whole _)
          aM (Memref.isWhole_whole _) bM (Memref.isWhole_whole _) cc0_scratch9 cc0_scratch10 cc0_scratch11 c v2 v8 v9 v27 (k0_pay7 (w1 m c 0)) (k0_pay8 (w2 m c 0)) >>= kk) Q) := by
  rw [k0_part6_eq_skeleton]; unfold k0_part6_skel
  simp only [semSignalWord, semWaitWord, Prog.lift, Prog.bind_op, Prog.bind_ret, Prog.pure_eq_ret, wp_deviceId]
  iintro ⟨#HK, #Hlev, Hc5, Hat5, Hc7, Hat7, HO, Hpa, HB⟩ Hk
  iapply (wait_step m K c 5 (srcw := gRows c) (dst := gRows c) rfl rfl (rest := [8]) (by decide)) $$ [Hc5 HO Hat5]
  · isplitr; · iexact HK
    isplitl [Hc5]; · iexact Hc5
    isplitl [HO]; · iexact HO
    isplitr; · iexact Hlev
    iexact Hat5
  iintro ⟨HO, Hat5, Hgp⟩
  iapply (wait_step m K c 7 (srcw := vM) (dst := wRows c) rfl rfl (rest := [8]) (by decide)) $$ [Hc7 HO Hat7]
  · isplitr; · iexact HK
    isplitl [Hc7]; · iexact Hc7
    isplitl [HO]; · iexact HO
    isplitr; · iexact Hlev
    iexact Hat7
  iintro ⟨HO, Hat7, Hwp⟩
  unfold pay
  iapply (load_rows c gM (off5_eq c) (inb' := k0_off2_inb (peer c)) (h1 := fun _ => rfl)) $$ Hgp
  iintro Hgp
  iapply (load_rows c wM (off6_eq c) (inb' := k0_off4_inb (peer c)) (h1 := fun _ => rfl)) $$ Hwp
  iintro Hwp
  iapply (load_all_any c paM hz2) $$ Hpa
  iintro %X0 Hpa
  iapply (store_all c paM hz2) $$ Hpa
  iintro Hpa
  iapply (wait_two c (s1 := w1At 1) (s2 := w2At 1) (m ((c : Thread nD τ).loc main_arg2)) (m ((c : Thread nD τ).loc main_arg3)) (ks := [8]) (by decide)) $$ [HB HO]
  · isplitl [HB]; · iapply (busy_out1 m c) $$ HB
    isplitl [HO]; · iexact HO
    iexact Hlev
  iintro ⟨HR, HO⟩
  ihave HR := (ready_in1 m c) $$ HR
  iapply Hk
  isplitl [HO]; · iexact HO
  isplitl [Hat5]; · iexact Hat5
  isplitl [Hat7]; · iexact Hat7
  isplitl [Hgp]; · iexact Hgp
  isplitl [Hwp]; · iexact Hwp
  isplitl [Hpa]; · iexact Hpa
  iexact HR

/-- Part 7: expert 1 on the device's own tokens; expert 2's matrices are sent for. -/
theorem part7 (v25 v27 : BitVec 32) (kk : (Σ' (v206 : FVec F S2048x1024 .bf16), FVec F S512x2048 .bf16) → Prog (TpuEff nD τ sig (Elt F) Λ₀ .tc) α) {Q : α → sProp 𝕄} :
    iprop(ready m c 1
        ∗ owns (c : Thread nD τ) (gRows c) fullShare.right (xh m c)
        ∗ owns (c : Thread nD τ) (wRows c) fullShare (mine m c)
        ∗ owns (c : Thread nD τ) oM fullShare (o0 m c)
        ∗ owns (c : Thread nD τ) (gRows (peer c)) fullShare (xh m (peer c)))
      ⊢ iprop((iprop(busy m c 2 ∗ owns (c : Thread nD τ) (gRows c) fullShare.right (xh m c) ∗ owns (c : Thread nD τ) (wRows c) fullShare (mine m c) ∗ owns (c : Thread nD τ) oM fullShare (o1 m c) ∗ owns (c : Thread nD τ) (gRows (peer c)) fullShare (xh m (peer c))) -∗ runs c (kk ⟨k0_pay12 (w2 m c 1), k0_pay14 (w1 m c 1) (xh m (peer c))⟩) Q)
          -∗ runs c (k0_part7 (F := F) xM (Memref.isWhole_whole _) rM (Memref.isWhole_whole _) w1M (Memref.isWhole_whole _) w2M (Memref.isWhole_whole _) oM (Memref.isWhole_whole _) gM (Memref.isWhole_whole _)
          qM (Memref.isWhole_whole _) wM (Memref.isWhole_whole _) vM (Memref.isWhole_whole _) psM (Memref.isWhole_whole _) prM (Memref.isWhole_whole _) paM (Memref.isWhole_whole _)
          aM (Memref.isWhole_whole _) bM (Memref.isWhole_whole _) cc0_scratch9 cc0_scratch10 cc0_scratch11 c v25 v27 >>= kk) Q) := by
  rw [k0_part7_eq_skeleton]; unfold k0_part7_skel
  simp only [semSignalWord, semWaitWord, Prog.lift, Prog.bind_op, Prog.bind_ret, Prog.pure_eq_ret, wp_deviceId]
  iintro ⟨HR, Hg, Hw, Ho, Hgp⟩ Hk
  unfold ready
  icases HR with ⟨Hrest, Ha, Hb⟩
  iapply (load_all c aM hz2) $$ Ha
  iintro Ha
  iapply (load_all c bM hz2) $$ Hb
  iintro Hb
  iapply (load_rows c gM (off1_eq_off2 c) (inb' := k0_off2_inb c) (h1 := fun _ => rfl)) $$ Hg
  iintro Hg
  iapply (load_rows c wM (off3_eq_off4 c) (inb' := k0_off4_inb c) (h1 := fun _ => rfl)) $$ Hw
  iintro Hw
  iapply (load_all c oM hz2) $$ Ho
  iintro Ho
  iapply (load_all c oM hz2) $$ Ho
  iintro Ho
  ihave Ho := (somewhat_of c oM _) $$ Ho
  iapply (store_all c oM hz2) $$ Ho
  iintro Ho
  ihave Hi := (ready_idle m c 1) $$ [Hrest Ha Hb]
  · unfold ready
    isplitl [Hrest]; · iexact Hrest
    isplitl [Ha] <;> iassumption
  ihave Hi := (idle_out2 m c) $$ Hi
  iapply (start_two c (s1 := w1At 2) (s2 := w2At 2) (m ((c : Thread nD τ).loc main_arg2)) (m ((c : Thread nD τ).loc main_arg3))) $$ Hi
  iintro HB
  ihave HB := (busy_in2 m c) $$ HB
  iapply (load_rows c gM (off5_eq c) (inb' := k0_off2_inb (peer c)) (h1 := fun _ => rfl)) $$ Hgp
  iintro Hgp
  iapply Hk
  isplitl [HB]; · iexact HB
  isplitl [Hg]; · iexact Hg
  isplitl [Hw]; · iexact Hw
  isplitl [Ho]; · iexact Ho
  iexact Hgp

/-- Part 8: expert 1 on the partner's tokens; expert 2's matrices are in. -/
theorem part8 (v25 v27 : BitVec 32) (kk : (Σ' (v257 : FVec F S1024x2048 .bf16) (v259 : FVec F S2048x1024 .bf16) (v266 : FVec F S512x1024 .f32), FVec F S512x1024 .f32) → Prog (TpuEff nD τ sig (Elt F) Λ₀ .tc) α) {Q : α → sProp 𝕄} :
    iprop(levAts L lv
        ∗ owns (c : Thread nD τ) (wRows (peer c)) fullShare (theirs m (peer c))
        ∗ owns (c : Thread nD τ) paM fullShare (p0 m c)
        ∗ busy m c 2
        ∗ owing c [8]
        ∗ owns (c : Thread nD τ) (gRows c) fullShare.right (xh m c)
        ∗ owns (c : Thread nD τ) (wRows c) fullShare (mine m c))
      ⊢ iprop((iprop(owns (c : Thread nD τ) (wRows (peer c)) fullShare (theirs m (peer c)) ∗ owns (c : Thread nD τ) paM fullShare (p1 m c) ∗ ready m c 2 ∗ owing c [8] ∗ owns (c : Thread nD τ) (gRows c) fullShare.right (xh m c) ∗ owns (c : Thread nD τ) (wRows c) fullShare (mine m c)) -∗ runs c (kk ⟨k0_pay16 (w1 m c 2), k0_pay17 (w2 m c 2), k0_pay18 (w1 m c 2) (w2 m c 2) (xh m c), k0_pay19 (mine m c)⟩) Q)
          -∗ runs c (k0_part8 (F := F) xM (Memref.isWhole_whole _) rM (Memref.isWhole_whole _) w1M (Memref.isWhole_whole _) w2M (Memref.isWhole_whole _) oM (Memref.isWhole_whole _) gM (Memref.isWhole_whole _)
          qM (Memref.isWhole_whole _) wM (Memref.isWhole_whole _) vM (Memref.isWhole_whole _) psM (Memref.isWhole_whole _) prM (Memref.isWhole_whole _) paM (Memref.isWhole_whole _)
          aM (Memref.isWhole_whole _) bM (Memref.isWhole_whole _) cc0_scratch9 cc0_scratch10 cc0_scratch11 c v25 v27 (k0_pay12 (w2 m c 1)) (k0_pay14 (w1 m c 1) (xh m (peer c))) >>= kk) Q) := by
  rw [k0_part8_eq_skeleton]; unfold k0_part8_skel
  simp only [semSignalWord, semWaitWord, Prog.lift, Prog.bind_op, Prog.bind_ret, Prog.pure_eq_ret, wp_deviceId]
  iintro ⟨#Hlev, Hwp, Hpa, HB, HO, Hg, Hw⟩ Hk
  iapply (load_rows c wM (off6_eq c) (inb' := k0_off4_inb (peer c)) (h1 := fun _ => rfl)) $$ Hwp
  iintro Hwp
  iapply (load_all c paM hz2) $$ Hpa
  iintro Hpa
  iapply (load_all c paM hz2) $$ Hpa
  iintro Hpa
  ihave Hpa := (somewhat_of c paM _) $$ Hpa
  iapply (store_all c paM hz2) $$ Hpa
  iintro Hpa
  iapply (wait_two c (s1 := w1At 2) (s2 := w2At 2) (m ((c : Thread nD τ).loc main_arg2)) (m ((c : Thread nD τ).loc main_arg3)) (ks := [8]) (by decide)) $$ [HB HO]
  · isplitl [HB]; · iapply (busy_out2 m c) $$ HB
    isplitl [HO]; · iexact HO
    iexact Hlev
  iintro ⟨HR, HO⟩
  ihave HR := (ready_in2 m c) $$ HR
  unfold ready
  icases HR with ⟨Hrest, Ha, Hb⟩
  iapply (load_all c aM hz2) $$ Ha
  iintro Ha
  iapply (load_all c bM hz2) $$ Hb
  iintro Hb
  iapply (load_rows c gM (off1_eq_off2 c) (inb' := k0_off2_inb c) (h1 := fun _ => rfl)) $$ Hg
  iintro Hg
  iapply (load_rows c wM (off3_eq_off4 c) (inb' := k0_off4_inb c) (h1 := fun _ => rfl)) $$ Hw
  iintro Hw
  iapply Hk
  isplitl [Hwp]; · iexact Hwp
  isplitl [Hpa]; · iexact Hpa
  isplitl [Hrest Ha Hb]
  · isplitl [Hrest]; · iexact Hrest
    isplitl [Ha] <;> iassumption
  isplitl [HO]; · iexact HO
  isplitl [Hg]; · iexact Hg
  iexact Hw

/-- Part 9: expert 2 on both blocks of tokens; expert 3's matrices are sent for. -/
theorem part9 (v27 : BitVec 32) (kk : PUnit → Prog (TpuEff nD τ sig (Elt F) Λ₀ .tc) α) {Q : α → sProp 𝕄} :
    iprop(owns (c : Thread nD τ) oM fullShare (o1 m c)
        ∗ ready m c 2
        ∗ owns (c : Thread nD τ) (gRows (peer c)) fullShare (xh m (peer c))
        ∗ owns (c : Thread nD τ) (wRows (peer c)) fullShare (theirs m (peer c))
        ∗ owns (c : Thread nD τ) paM fullShare (p1 m c))
      ⊢ iprop((iprop(owns (c : Thread nD τ) oM fullShare (o2 m c) ∗ busy m c 3 ∗ owns (c : Thread nD τ) (gRows (peer c)) fullShare (xh m (peer c)) ∗ owns (c : Thread nD τ) (wRows (peer c)) fullShare (theirs m (peer c)) ∗ owns (c : Thread nD τ) paM fullShare (p2 m c)) -∗ runs c (kk ⟨⟩) Q)
          -∗ runs c (k0_part9 (F := F) xM (Memref.isWhole_whole _) rM (Memref.isWhole_whole _) w1M (Memref.isWhole_whole _) w2M (Memref.isWhole_whole _) oM (Memref.isWhole_whole _) gM (Memref.isWhole_whole _)
          qM (Memref.isWhole_whole _) wM (Memref.isWhole_whole _) vM (Memref.isWhole_whole _) psM (Memref.isWhole_whole _) prM (Memref.isWhole_whole _) paM (Memref.isWhole_whole _)
          aM (Memref.isWhole_whole _) bM (Memref.isWhole_whole _) cc0_scratch9 cc0_scratch10 cc0_scratch11 c v27 (k0_pay16 (w1 m c 2)) (k0_pay17 (w2 m c 2)) (k0_pay18 (w1 m c 2) (w2 m c 2) (xh m c)) (k0_pay19 (mine m c)) >>= kk) Q) := by
  rw [k0_part9_eq_skeleton]; unfold k0_part9_skel
  simp only [semSignalWord, semWaitWord, Prog.lift, Prog.bind_op, Prog.bind_ret, Prog.pure_eq_ret, wp_deviceId]
  iintro ⟨Ho, HR, Hgp, Hwp, Hpa⟩ Hk
  iapply (load_all c oM hz2) $$ Ho
  iintro Ho
  iapply (load_all c oM hz2) $$ Ho
  iintro Ho
  ihave Ho := (somewhat_of c oM _) $$ Ho
  iapply (store_all c oM hz2) $$ Ho
  iintro Ho
  unfold ready
  icases HR with ⟨Hrest, Ha, Hb⟩
  ihave Hi := (ready_idle m c 2) $$ [Hrest Ha Hb]
  · unfold ready
    isplitl [Hrest]; · iexact Hrest
    isplitl [Ha] <;> iassumption
  ihave Hi := (idle_out3 m c) $$ Hi
  iapply (start_two c (s1 := w1At 3) (s2 := w2At 3) (m ((c : Thread nD τ).loc main_arg2)) (m ((c : Thread nD τ).loc main_arg3))) $$ Hi
  iintro HB
  ihave HB := (busy_in3 m c) $$ HB
  iapply (load_rows c gM (off5_eq c) (inb' := k0_off2_inb (peer c)) (h1 := fun _ => rfl)) $$ Hgp
  iintro Hgp
  iapply (load_rows c wM (off6_eq c) (inb' := k0_off4_inb (peer c)) (h1 := fun _ => rfl)) $$ Hwp
  iintro Hwp
  iapply (load_all c paM hz2) $$ Hpa
  iintro Hpa
  iapply (load_all c paM hz2) $$ Hpa
  iintro Hpa
  ihave Hpa := (somewhat_of c paM _) $$ Hpa
  iapply (store_all c paM hz2) $$ Hpa
  iintro Hpa
  iapply Hk
  isplitl [Ho]; · iexact Ho
  isplitl [HB]; · iexact HB
  isplitl [Hgp]; · iexact Hgp
  isplitl [Hwp]; · iexact Hwp
  iexact Hpa

/-- Part 10: expert 3's matrices are in; with expert 3 the partner's partial sums are complete. -/
theorem part10 (v2 v8 v9 v27 : BitVec 32) (kk : (Σ' (v310 : FVec F S1024x2048 .bf16) (v312 : FVec F S2048x1024 .bf16) (v334 : BitVec 32), BitVec 32) → Prog (TpuEff nD τ sig (Elt F) Λ₀ .tc) α) {Q : α → sProp 𝕄} :
    iprop(levAts L lv
        ∗ busy m c 3
        ∗ owing c [8]
        ∗ owns (c : Thread nD τ) (gRows (peer c)) fullShare (xh m (peer c))
        ∗ owns (c : Thread nD τ) (wRows (peer c)) fullShare (theirs m (peer c))
        ∗ owns (c : Thread nD τ) paM fullShare (p2 m c)
        ∗ somewhat c psM)
      ⊢ iprop((iprop(ready m c 3 ∗ owing c [8] ∗ owns (c : Thread nD τ) (gRows (peer c)) fullShare (xh m (peer c)) ∗ owns (c : Thread nD τ) (wRows (peer c)) fullShare (theirs m (peer c)) ∗ owns (c : Thread nD τ) paM fullShare (p2 m c) ∗ owns (c : Thread nD τ) psM fullShare (p3 m c)) -∗ runs c (kk ⟨k0_pay22 (w1 m c 3), k0_pay23 (w2 m c 3), Scalar.addi (Scalar.addi 0#32 (Scalar.muli v2 8#32)) (Scalar.muli v9 4#32), Scalar.muli v8 1#32⟩) Q)
          -∗ runs c (k0_part10 (F := F) xM (Memref.isWhole_whole _) rM (Memref.isWhole_whole _) w1M (Memref.isWhole_whole _) w2M (Memref.isWhole_whole _) oM (Memref.isWhole_whole _) gM (Memref.isWhole_whole _)
          qM (Memref.isWhole_whole _) wM (Memref.isWhole_whole _) vM (Memref.isWhole_whole _) psM (Memref.isWhole_whole _) prM (Memref.isWhole_whole _) paM (Memref.isWhole_whole _)
          aM (Memref.isWhole_whole _) bM (Memref.isWhole_whole _) cc0_scratch9 cc0_scratch10 cc0_scratch11 c v2 v8 v9 v27 >>= kk) Q) := by
  rw [k0_part10_eq_skeleton]; unfold k0_part10_skel
  simp only [semSignalWord, semWaitWord, Prog.lift, Prog.bind_op, Prog.bind_ret, Prog.pure_eq_ret, wp_deviceId]
  iintro ⟨#Hlev, HB, HO, Hgp, Hwp, Hpa, Hps⟩ Hk
  iapply (wait_two c (s1 := w1At 3) (s2 := w2At 3) (m ((c : Thread nD τ).loc main_arg2)) (m ((c : Thread nD τ).loc main_arg3)) (ks := [8]) (by decide)) $$ [HB HO]
  · isplitl [HB]; · iapply (busy_out3 m c) $$ HB
    isplitl [HO]; · iexact HO
    iexact Hlev
  iintro ⟨HR, HO⟩
  ihave HR := (ready_in3 m c) $$ HR
  unfold ready
  icases HR with ⟨Hrest, Ha, Hb⟩
  iapply (load_all c aM hz2) $$ Ha
  iintro Ha
  iapply (load_all c bM hz2) $$ Hb
  iintro Hb
  iapply (load_rows c gM (off5_eq c) (inb' := k0_off2_inb (peer c)) (h1 := fun _ => rfl)) $$ Hgp
  iintro Hgp
  iapply (load_rows c wM (off6_eq c) (inb' := k0_off4_inb (peer c)) (h1 := fun _ => rfl)) $$ Hwp
  iintro Hwp
  iapply (load_all c paM hz2) $$ Hpa
  iintro Hpa
  iapply (load_all_any c psM hz2) $$ Hps
  iintro %X0 Hps
  iapply (store_all c psM hz2) $$ Hps
  iintro Hps
  iapply Hk
  isplitl [Hrest Ha Hb]
  · isplitl [Hrest]; · iexact Hrest
    isplitl [Ha] <;> iassumption
  isplitl [HO]; · iexact HO
  isplitl [Hgp]; · iexact Hgp
  isplitl [Hwp]; · iexact Hwp
  isplitl [Hpa]; · iexact Hpa
  iexact Hps

/-- Part 11: the partial sums go to the partner; expert 3 on the device's own tokens; the partner's partial sums are added. -/
theorem part11 (v2 v8 v9 v25 v334 v335 : BitVec 32) (kk : PUnit → Prog (TpuEff nD τ sig (Elt F) Λ₀ .tc) α) {Q : α → sProp 𝕄} :
    iprop(records m K
        ∗ levAts L lv
        ∗ owns (c : Thread nD τ) psM fullShare (p3 m c)
        ∗ somewhat (peer c) prM
        ∗ owing c [8]
        ∗ dutyTok EX (kcell (c, 4)) 0 ()
        ∗ dutyTok EX (kcell (peer c, 8)) 0 ()
        ∗ owns (c : Thread nD τ) (gRows c) fullShare.right (xh m c)
        ∗ owns (c : Thread nD τ) (wRows c) fullShare (mine m c)
        ∗ owns (c : Thread nD τ) oM fullShare (o2 m c)
        ∗ cred (tallyAt (kcell (c, 8)) () (amt 8))
        ∗ atPos EX (kcell (c, 8)) 0 ∅ 0)
      ⊢ iprop((iprop(owing c [] ∗ cred (tallyAt (kcell (c, 4)) () (amt 4)) ∗ atPos EX (kcell (c, 8)) 1 ∅ 0 ∗ owns (c : Thread nD τ) (gRows c) fullShare.right (xh m c) ∗ owns (c : Thread nD τ) (wRows c) fullShare (mine m c) ∗ owns (c : Thread nD τ) prM fullShare (p3 m (peer c)) ∗ owns (c : Thread nD τ) oM fullShare (res m c)) -∗ runs c (kk ⟨⟩) Q)
          -∗ runs c (k0_part11 (F := F) xM (Memref.isWhole_whole _) rM (Memref.isWhole_whole _) w1M (Memref.isWhole_whole _) w2M (Memref.isWhole_whole _) oM (Memref.isWhole_whole _) gM (Memref.isWhole_whole _)
          qM (Memref.isWhole_whole _) wM (Memref.isWhole_whole _) vM (Memref.isWhole_whole _) psM (Memref.isWhole_whole _) prM (Memref.isWhole_whole _) paM (Memref.isWhole_whole _)
          aM (Memref.isWhole_whole _) bM (Memref.isWhole_whole _) cc0_scratch9 cc0_scratch10 cc0_scratch11 c v2 v8 v9 v25 (k0_pay22 (w1 m c 3)) (k0_pay23 (w2 m c 3)) v334 v335 >>= kk) Q) := by
  rw [k0_part11_eq_skeleton]; unfold k0_part11_skel
  simp only [semSignalWord, semWaitWord, Prog.lift, Prog.bind_op, Prog.bind_ret, Prog.pure_eq_ret, wp_deviceId]
  iintro ⟨#HK, #Hlev, Hps, Hpp, HO, Ht4, Ht8, Hg, Hw, Ho, Hc, Hat⟩ Hk
  iapply (send_step m K c 4 8 (src := psM) (dst' := prM) _ (dev5_eq c) rfl rfl rfl (q := fullShare) (X := p3 m c) rfl rfl
    .rfl (ent_of_eq (pay8 m c).symm) (rest := [])) $$ [Hps Hpp HO Ht4 Ht8]
  · isplitr; · iexact HK
    isplitl [Hps]; · iexact Hps
    isplitl [Hpp]; · iexact Hpp
    isplitl [HO]; · iexact HO
    isplitl [Ht4] <;> iassumption
  iintro ⟨Hc4, HO⟩
  iapply (load_rows c gM (off1_eq_off2 c) (inb' := k0_off2_inb c) (h1 := fun _ => rfl)) $$ Hg
  iintro Hg
  iapply (load_rows c wM (off3_eq_off4 c) (inb' := k0_off4_inb c) (h1 := fun _ => rfl)) $$ Hw
  iintro Hw
  iapply (load_all c oM hz2) $$ Ho
  iintro Ho
  iapply (load_all c oM hz2) $$ Ho
  iintro Ho
  ihave Ho := (somewhat_of c oM _) $$ Ho
  iapply (store_all c oM hz2) $$ Ho
  iintro Ho
  iapply (wait_step m K c 8 (srcw := psM) (dst := prM) rfl rfl (rest := []) (by decide)) $$ [Hc HO Hat]
  · isplitr; · iexact HK
    isplitl [Hc]; · iexact Hc
    isplitl [HO]; · iexact HO
    isplitr; · iexact Hlev
    iexact Hat
  iintro ⟨HO, Hat, Hpr⟩
  unfold pay
  iapply (load_all c oM hz2) $$ Ho
  iintro Ho
  iapply (load_all c prM hz2) $$ Hpr
  iintro Hpr
  iapply (load_all c oM hz2) $$ Ho
  iintro Ho
  ihave Ho := (somewhat_of c oM _) $$ Ho
  iapply (store_all c oM hz2) $$ Ho
  iintro Ho
  iapply Hk
  isplitl [HO]; · iexact HO
  isplitl [Hc4]; · iexact Hc4
  isplitl [Hat]; · iexact Hat
  isplitl [Hg]; · iexact Hg
  isplitl [Hw]; · iexact Hw
  isplitl [Hpr]; · iexact Hpr
  iexact Ho

end Parts

end Cert.Moe
end
-- ==== Proof.Body.lean ====
/-
# The body: its parts in order, from what a device holds at launch to what it holds at the end
-/
module

public import proofs.«01_k».proof.Proof.BodyB
public import Idealize.ShloMosaic.Lib.MemrefSat

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-! ## A buffer in two halves of its rows -/

theorem bigSep_two (Φ : Fin 2 → sProp 𝕄) : bigSep Finset.univ Φ = iprop(Φ 0 ∗ Φ 1) := bigSep_univ_eq_bigSepL [0, 1] (by decide) (by decide) Φ

section Halves

variable (c : Dev nD) {sp : Space} {s : Shape} {e : EltTy} (M : Memref sig .tc sp s e) (r : Fin 2 → Rect s) (hr : ∀ t a, (r t).stride a = 1)
  (hd : ∀ t t', t ≠ t' → Disjoint (r t).set (r t').set) (hcov : (Finset.univ : Finset (Fin 2)).biUnion (fun t => (r t).set) = Finset.univ)

include hd hcov in
/-- A memref held is its two parts held, -/
theorem some_split : (somewhat c M : sProp 𝕄) ⊢ iprop(somewhat c (M.slice (r 0) (hr 0)) ∗ somewhat c (M.slice (r 1) (hr 1))) := by
  unfold somewhat
  iintro ⟨%X, H⟩
  ihave H := ((owns_rects (c : Thread nD τ) M fullShare r hr hd hcov X).trans (ent_of_eq (bigSep_two _))) $$ H
  icases H with ⟨H0, H1⟩
  isplitl [H0]
  · iexists _; iexact H0
  · iexists _; iexact H1

include hd hcov in
/-- and back. -/
theorem some_join : iprop(somewhat c (M.slice (r 0) (hr 0)) ∗ somewhat c (M.slice (r 1) (hr 1))) ⊢ (somewhat c M : sProp 𝕄) := by
  refine (ent_of_eq (bigSep_two fun t => somewhat c (M.slice (r t) (hr t))).symm).trans ?_
  unfold somewhat
  refine (BI.bigSep_exists_pi Finset.univ (fun t X => owns (c : Thread nD τ) (M.slice (r t) (hr t)) fullShare X)).trans ?_
  iintro ⟨%Xs, H⟩
  have hg (t : Fin 2) : (fun j => Rect.glue r hcov Xs ((r t).emb j)) = Xs t := funext fun y => Rect.glue_emb r hcov hd Xs t y
  iexists (Rect.glue r hcov Xs)
  iapply (owns_of_rects (c : Thread nD τ) M fullShare r hr hd hcov (Rect.glue r hcov Xs))
  simp only [hg]
  iexact H

end Halves

/-- The rows of the two devices: the first half is one's, the second the other's. -/
theorem off2_cases (c : Dev nD) : (k0_off2 c = ![0, 0] ∧ k0_off2 (peer c) = ![512, 0]) ∨ (k0_off2 c = ![512, 0] ∧ k0_off2 (peer c) = ![0, 0]) := by
  rw [k0_off2_eq, k0_off2_eq]; revert c; decide

/-- The device's rows of `gM` and its partner's. -/
def gRects (c : Dev nD) : Fin 2 → Rect S1024x1024
  | 0 => Rect.unit (s := S1024x1024) (k0_off2 c) S512x1024.size (k0_off2_inb c)
  | 1 => Rect.unit (s := S1024x1024) (k0_off2 (peer c)) S512x1024.size (k0_off2_inb (peer c))
theorem gRects_unit (c : Dev nD) (t : Fin 2) (a) : (gRects c t).stride a = 1 := by
  fin_cases t <;> rfl
theorem gRects_disjoint (c : Dev nD) : ∀ t t', t ≠ t' → Disjoint (gRects c t).set (gRects c t').set := by
  have h0 : k0_off2 c 0 + S512x1024.size 0 ≤ k0_off2 (peer c) 0 ∨ k0_off2 (peer c) 0 + S512x1024.size 0 ≤ k0_off2 c 0 := by
    rcases off2_cases c with ⟨h1, h2⟩ | ⟨h1, h2⟩
    · rw [h1, h2]; exact Or.inl (by decide)
    · rw [h1, h2]; exact Or.inr (by decide)
  have h : Disjoint (gRects c 0).set (gRects c 1).set :=
    Rect.unit_disjoint (s := S1024x1024) (inb := k0_off2_inb c) (inb' := k0_off2_inb (peer c)) 0 h0
  intro t t' ht
  match t, t', ht with
  | 0, 0, ht => exact absurd rfl ht
  | 0, 1, _ => exact h
  | 1, 0, _ => exact h.symm
  | 1, 1, ht => exact absurd rfl ht
theorem gRects_cover (c : Dev nD) : (Finset.univ : Finset (Fin 2)).biUnion (fun t => (gRects c t).set) = Finset.univ := by
  ext i
  simp only [Finset.mem_biUnion, Finset.mem_univ, true_and, iff_true]
  have key (d : Dev nD) (o : ℕ) (hd : k0_off2 d = ![o, 0]) (h : o ≤ (i 0).val ∧ (i 0).val < o + 512) :
      i ∈ (Rect.unit (s := S1024x1024) (k0_off2 d) S512x1024.size (k0_off2_inb d)).set := by
    rw [Rect.mem_set_unit, show k0_off2 d = k0_off2 d from rfl, hd]
    intro a
    fin_cases a
    · exact h
    · exact ⟨Nat.zero_le _, by rw [show ((![o, 0] : Fin 2 → ℕ) ⟨1, by decide⟩) = 0 from rfl, Nat.zero_add]; exact (i 1).isLt⟩
  have hi : (i 0).val < 1024 := (i 0).isLt
  rcases off2_cases c with ⟨h1, h2⟩ | ⟨h1, h2⟩ <;> by_cases hlt : (i 0).val < 512
  · exact ⟨0, key c 0 h1 ⟨Nat.zero_le _, by omega⟩⟩
  · exact ⟨1, key (peer c) 512 h2 ⟨by omega, by omega⟩⟩
  · exact ⟨1, key (peer c) 0 h2 ⟨Nat.zero_le _, by omega⟩⟩
  · exact ⟨0, key c 512 h1 ⟨by omega, by omega⟩⟩
theorem g_split (c : Dev nD) : (somewhat c gM : sProp 𝕄) ⊢ iprop(somewhat c (gRows c) ∗ somewhat c (gRows (peer c))) :=
  some_split c gM (gRects c) (gRects_unit c) (gRects_disjoint c) (gRects_cover c)
theorem g_join (c : Dev nD) : iprop(somewhat c (gRows c) ∗ somewhat c (gRows (peer c))) ⊢ (somewhat c gM : sProp 𝕄) :=
  some_join c gM (gRects c) (gRects_unit c) (gRects_disjoint c) (gRects_cover c)

/-- The device's rows of `wM` and its partner's. -/
def wRects (c : Dev nD) : Fin 2 → Rect S1024x4
  | 0 => Rect.unit (s := S1024x4) (k0_off4 c) S512x4.size (k0_off4_inb c)
  | 1 => Rect.unit (s := S1024x4) (k0_off4 (peer c)) S512x4.size (k0_off4_inb (peer c))
theorem wRects_unit (c : Dev nD) (t : Fin 2) (a) : (wRects c t).stride a = 1 := by
  fin_cases t <;> rfl
theorem wRects_disjoint (c : Dev nD) : ∀ t t', t ≠ t' → Disjoint (wRects c t).set (wRects c t').set := by
  have h0 : k0_off2 c 0 + S512x4.size 0 ≤ k0_off2 (peer c) 0 ∨ k0_off2 (peer c) 0 + S512x4.size 0 ≤ k0_off2 c 0 := by
    rcases off2_cases c with ⟨h1, h2⟩ | ⟨h1, h2⟩
    · rw [h1, h2]; exact Or.inl (by decide)
    · rw [h1, h2]; exact Or.inr (by decide)
  have h : Disjoint (wRects c 0).set (wRects c 1).set :=
    Rect.unit_disjoint (s := S1024x4) (inb := k0_off4_inb c) (inb' := k0_off4_inb (peer c)) 0 h0
  intro t t' ht
  match t, t', ht with
  | 0, 0, ht => exact absurd rfl ht
  | 0, 1, _ => exact h
  | 1, 0, _ => exact h.symm
  | 1, 1, ht => exact absurd rfl ht
theorem wRects_cover (c : Dev nD) : (Finset.univ : Finset (Fin 2)).biUnion (fun t => (wRects c t).set) = Finset.univ := by
  ext i
  simp only [Finset.mem_biUnion, Finset.mem_univ, true_and, iff_true]
  have key (d : Dev nD) (o : ℕ) (hd : k0_off2 d = ![o, 0]) (h : o ≤ (i 0).val ∧ (i 0).val < o + 512) :
      i ∈ (Rect.unit (s := S1024x4) (k0_off4 d) S512x4.size (k0_off4_inb d)).set := by
    rw [Rect.mem_set_unit, show k0_off4 d = k0_off2 d from rfl, hd]
    intro a
    fin_cases a
    · exact h
    · exact ⟨Nat.zero_le _, by rw [show ((![o, 0] : Fin 2 → ℕ) ⟨1, by decide⟩) = 0 from rfl, Nat.zero_add]; exact (i 1).isLt⟩
  have hi : (i 0).val < 1024 := (i 0).isLt
  rcases off2_cases c with ⟨h1, h2⟩ | ⟨h1, h2⟩ <;> by_cases hlt : (i 0).val < 512
  · exact ⟨0, key c 0 h1 ⟨Nat.zero_le _, by omega⟩⟩
  · exact ⟨1, key (peer c) 512 h2 ⟨by omega, by omega⟩⟩
  · exact ⟨1, key (peer c) 0 h2 ⟨Nat.zero_le _, by omega⟩⟩
  · exact ⟨0, key c 512 h1 ⟨by omega, by omega⟩⟩
theorem w_split (c : Dev nD) : (somewhat c wM : sProp 𝕄) ⊢ iprop(somewhat c (wRows c) ∗ somewhat c (wRows (peer c))) :=
  some_split c wM (wRects c) (wRects_unit c) (wRects_disjoint c) (wRects_cover c)
theorem w_join (c : Dev nD) : iprop(somewhat c (wRows c) ∗ somewhat c (wRows (peer c))) ⊢ (somewhat c wM : sProp 𝕄) :=
  some_join c wM (wRects c) (wRects_unit c) (wRects_disjoint c) (wRects_cover c)

/-! ## What a device starts from and what it ends with -/

/-- Whose semaphore `k` device `c` pays: its own for what it sends, its partner's for what it hands over. -/
def payee (c : Dev nD) : Fin 9 → Dev nD
  | 1 => c | 2 => c | 3 => c | 4 => c
  | 0 => peer c | 5 => peer c | 6 => peer c | 7 => peer c | 8 => peer c

theorem bigSep_nine (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- The device's places at its nine semaphores and the tokens of the duties it pays. -/
def linear (c : Dev nD) : sProp 𝕄 :=
  iprop((bigSep Finset.univ fun k : Fin 9 => atPos EX (kcell (c, k)) 0 ∅ 0) ∗ bigSep Finset.univ fun k : Fin 9 => dutyTok EX (kcell (payee c k, k)) 0 ())
/-- The credit of the five semaphores its partner pays. -/
def credits (c : Dev nD) : sProp 𝕄 :=
  iprop(cred (tallyAt (kcell (c, 0)) () (amt 0)) ∗ cred (tallyAt (kcell (c, 5)) () (amt 5)) ∗ cred (tallyAt (kcell (c, 6)) () (amt 6))
    ∗ cred (tallyAt (kcell (c, 7)) () (amt 7)) ∗ cred (tallyAt (kcell (c, 8)) () (amt 8)))
/-- The nine scratch buffers, at some contents. -/
def scratch (c : Dev nD) : sProp 𝕄 :=
  iprop(somewhat c gM ∗ somewhat c qM ∗ somewhat c wM ∗ somewhat c vM ∗ somewhat c psM ∗ somewhat c prM ∗ somewhat c paM ∗ somewhat c aM ∗ somewhat c bM)

/-- The device's token block is read, its router block too, and the result buffer written at the end. -/
def bodyPre (K : Dev nD × Fin 9 → ℕ) (c : Dev nD) : sProp 𝕄 :=
  iprop(records m K ∗ levAts L lv ∗ linear c ∗ credits c ∗ atRest m c ∗ scratch c ∗ owing c [0, 5, 6, 7, 8]
    ∗ owns (c : Thread nD τ) xM fullShare (xB m c) ∗ owns (c : Thread nD τ) rM fullShare (rB m c) ∗ somewhat c oM)
def bodyPost (c : Dev nD) : sProp 𝕄 :=
  iprop((bigSep Finset.univ fun k : Fin 9 => semVal (kcell (c, k)) 0) ∗ atRest m c ∗ scratch c ∗ owing c []
    ∗ owns (c : Thread nD τ) xM fullShare (xB m c) ∗ owns (c : Thread nD τ) rM fullShare (rB m c) ∗ owns (c : Thread nD τ) oM fullShare (res m c))

set_option maxRecDepth 8000 in
/-- The body runs from the one to the other. -/
theorem body_runs (K : Dev nD × Fin 9 → ℕ) (c : Dev nD) {Q : PUnit → sProp 𝕄} :
    iprop(bodyPre m K c ∗ (bodyPost m c -∗ Q ⟨⟩))
      ⊢ runs c (cc0_body (F := F) xM (Memref.isWhole_whole _) rM (Memref.isWhole_whole _) w1M (Memref.isWhole_whole _) w2M (Memref.isWhole_whole _) oM (Memref.isWhole_whole _) gM (Memref.isWhole_whole _)
          qM (Memref.isWhole_whole _) wM (Memref.isWhole_whole _) vM (Memref.isWhole_whole _) psM (Memref.isWhole_whole _) prM (Memref.isWhole_whole _) paM (Memref.isWhole_whole _)
          aM (Memref.isWhole_whole _) bM (Memref.isWhole_whole _) cc0_scratch9 cc0_scratch10 cc0_scratch11) Q := by
  simp only [cc0_body_eq_skeleton]; unfold cc0_body_skel
  unfold bodyPre linear credits scratch
  rw [bigSep_nine, bigSep_nine]
  iintro ⟨⟨#HK, #Hlev, ⟨⟨At0, At1, At2, At3, At4, At5, At6, At7, At8⟩, T0, T1, T2, T3, T4, T5, T6, T7, T8⟩, ⟨C0, C5, C6, C7, C8⟩, Hrest,
    ⟨Sg, Sq, Sw, Sv, Sps, Spr, Spa, Sa, Sb⟩, HO, Hx, Hr, Ho⟩, Hk⟩
  unfold payee
  ihave Sg := (g_split c) $$ Sg
  icases Sg with ⟨Sg, Sgp⟩
  ihave Sw := (w_split c) $$ Sw
  icases Sw with ⟨Sw, Swp⟩
  ihave Hpay := (show iprop(somewhat c (gRows (peer c)) ∗ somewhat c qM ∗ somewhat c (wRows (peer c)) ∗ somewhat c prM) ⊢ pay m (peer c) 0 from
    ent_of_eq (by unfold pay; dsimp only; rw [peer_peer])) $$ [Sgp Sq Swp Spr]
  · isplitl [Sgp]; · iexact Sgp
    isplitl [Sq]; · iexact Sq
    isplitl [Swp] <;> iassumption
  ihave Hi := (show iprop(atRest m c ∗ somewhat c aM ∗ somewhat c bM) ⊢ idle m c from .rfl) $$ [Hrest Sa Sb]
  · isplitl [Hrest]; · iexact Hrest
    isplitl [Sa] <;> iassumption
  iapply (part1 m K c) $$ [Hi HO T0 Hpay C0 At0]
  · isplitr; · iexact HK
    isplitr; · iexact Hlev
    isplitl [Hi]; · iexact Hi
    isplitl [HO]; · iexact HO
    isplitl [T0]; · iexact T0
    isplitl [Hpay]; · iexact Hpay
    isplitl [C0]; · iexact C0
    iexact At0
  iintro ⟨HB, HO, At0, Hpay⟩
  unfold pay
  icases Hpay with ⟨Pg, Pq, Pw, Ppr⟩
  iapply (part2 m K c _ _ _ _) $$ [Hx Sg Hr Pg Pq HO T1 T5 T2 T6]
  · isplitr; · iexact HK
    isplitl [Hx]; · iexact Hx
    isplitl [Sg]; · iexact Sg
    isplitl [Hr]; · iexact Hr
    isplitl [Pg]; · iexact Pg
    isplitl [Pq]; · iexact Pq
    isplitl [HO]; · iexact HO
    isplitl [T1]; · iexact T1
    isplitl [T5]; · iexact T5
    isplitl [T2]; · iexact T2
    iexact T6
  iintro ⟨Hx, Hg, Hr, HO, C1, C2⟩
  iapply (part3 m K c) $$ [Hx Hr HO C6 At6]
  · isplitr; · iexact HK
    isplitr; · iexact Hlev
    isplitl [Hx]; · iexact Hx
    isplitl [Hr]; · iexact Hr
    isplitl [HO]; · iexact HO
    isplitl [C6]; · iexact C6
    iexact At6
  iintro ⟨Hx, Hr, Hq, HO, At6⟩
  iapply (part4 m K c _ _ _ _) $$ [Sw Sv Pw HO T3 T7 HB]
  · isplitr; · iexact HK
    isplitr; · iexact Hlev
    isplitl [Sw]; · iexact Sw
    isplitl [Sv]; · iexact Sv
    isplitl [Pw]; · iexact Pw
    isplitl [HO]; · iexact HO
    isplitl [T3]; · iexact T3
    isplitl [T7]; · iexact T7
    iexact HB
  iintro ⟨Hw, C3, HO, HB⟩
  iapply (part5 m c _ _ _ _) $$ [HB Hg Hw Ho]
  · isplitl [HB]; · iexact HB
    isplitl [Hg]; · iexact Hg
    isplitl [Hw]; · iexact Hw
    iexact Ho
  iintro ⟨HB, Hg, Hw, Ho⟩
  iapply (part6 m K c _ _ _ _) $$ [C5 At5 C7 At7 HO Spa HB]
  · isplitr; · iexact HK
    isplitr; · iexact Hlev
    isplitl [C5]; · iexact C5
    isplitl [At5]; · iexact At5
    isplitl [C7]; · iexact C7
    isplitl [At7]; · iexact At7
    isplitl [HO]; · iexact HO
    isplitl [Spa]; · iexact Spa
    iexact HB
  iintro ⟨HO, At5, At7, Hgp, Hwp, Hpa, HB⟩
  iapply (part7 m c _ _) $$ [HB Hg Hw Ho Hgp]
  · isplitl [HB]; · iexact HB
    isplitl [Hg]; · iexact Hg
    isplitl [Hw]; · iexact Hw
    isplitl [Ho]; · iexact Ho
    iexact Hgp
  iintro ⟨HB, Hg, Hw, Ho, Hgp⟩
  iapply (part8 m c _ _) $$ [Hwp Hpa HB HO Hg Hw]
  · isplitr; · iexact Hlev
    isplitl [Hwp]; · iexact Hwp
    isplitl [Hpa]; · iexact Hpa
    isplitl [HB]; · iexact HB
    isplitl [HO]; · iexact HO
    isplitl [Hg]; · iexact Hg
    iexact Hw
  iintro ⟨Hwp, Hpa, HB, HO, Hg, Hw⟩
  iapply (part9 m c _) $$ [Ho HB Hgp Hwp Hpa]
  · isplitl [Ho]; · iexact Ho
    isplitl [HB]; · iexact HB
    isplitl [Hgp]; · iexact Hgp
    isplitl [Hwp]; · iexact Hwp
    iexact Hpa
  iintro ⟨Ho, HB, Hgp, Hwp, Hpa⟩
  iapply (part10 m c _ _ _ _) $$ [HB HO Hgp Hwp Hpa Sps]
  · isplitr; · iexact Hlev
    isplitl [HB]; · iexact HB
    isplitl [HO]; · iexact HO
    isplitl [Hgp]; · iexact Hgp
    isplitl [Hwp]; · iexact Hwp
    isplitl [Hpa]; · iexact Hpa
    iexact Sps
  iintro ⟨HB, HO, Hgp, Hwp, Hpa, Hps⟩
  iapply (part11 m K c _ _ _ _ _ _) $$ [Hps Ppr HO T4 T8 Hg Hw Ho C8 At8]
  · isplitr; · iexact HK
    isplitr; · iexact Hlev
    isplitl [Hps]; · iexact Hps
    isplitl [Ppr]; · iexact Ppr
    isplitl [HO]; · iexact HO
    isplitl [T4]; · iexact T4
    isplitl [T8]; · iexact T8
    isplitl [Hg]; · iexact Hg
    isplitl [Hw]; · iexact Hw
    isplitl [Ho]; · iexact Ho
    isplitl [C8]; · iexact C8
    iexact At8
  iintro ⟨HO, C4, At8, Hg, Hw, Hpr, Ho⟩
  simp only [Prog.lift, Prog.bind_op, Prog.bind_ret, Prog.pure_eq_ret]
  iapply (wait_step m K c 1 (srcw := gRows c) (dst := gRows c) rfl rfl (rest := []) (by decide)) $$ [C1 HO At1]
  · isplitr; · iexact HK
    isplitl [C1]; · iexact C1
    isplitl [HO]; · iexact HO
    isplitr; · iexact Hlev
    iexact At1
  iintro ⟨HO, At1, P1⟩
  iapply (wait_step m K c 2 (srcw := qM) (dst := rM) rfl rfl (rest := []) (by decide)) $$ [C2 HO At2]
  · isplitr; · iexact HK
    isplitl [C2]; · iexact C2
    isplitl [HO]; · iexact HO
    isplitr; · iexact Hlev
    iexact At2
  iintro ⟨HO, At2, P2⟩
  iapply (wait_step m K c 3 (srcw := wRows c) (dst := vM) rfl rfl (rest := []) (by decide)) $$ [C3 HO At3]
  · isplitr; · iexact HK
    isplitl [C3]; · iexact C3
    isplitl [HO]; · iexact HO
    isplitr; · iexact Hlev
    iexact At3
  iintro ⟨HO, At3, P3⟩
  iapply (wait_step m K c 4 (srcw := prM) (dst := psM) rfl rfl (rest := []) (by decide)) $$ [C4 HO At4]
  · isplitr; · iexact HK
    isplitl [C4]; · iexact C4
    isplitl [HO]; · iexact HO
    isplitr; · iexact Hlev
    iexact At4
  iintro ⟨HO, At4, P4⟩
  unfold pay
  imod (close_step m K c 0) $$ [At0] with V0
  · isplitr; · iexact HK
    iexact At0
  imod (close_step m K c 1) $$ [At1] with V1
  · isplitr; · iexact HK
    iexact At1
  imod (close_step m K c 2) $$ [At2] with V2
  · isplitr; · iexact HK
    iexact At2
  imod (close_step m K c 3) $$ [At3] with V3
  · isplitr; · iexact HK
    iexact At3
  imod (close_step m K c 4) $$ [At4] with V4
  · isplitr; · iexact HK
    iexact At4
  imod (close_step m K c 5) $$ [At5] with V5
  · isplitr; · iexact HK
    iexact At5
  imod (close_step m K c 6) $$ [At6] with V6
  · isplitr; · iexact HK
    iexact At6
  imod (close_step m K c 7) $$ [At7] with V7
  · isplitr; · iexact HK
    iexact At7
  imod (close_step m K c 8) $$ [At8] with V8
  · isplitr; · iexact HK
    iexact At8
  ihave Hg := (owns_halves (c : Thread nD τ) (gRows c) fullShare (xh m c)).2 $$ [P1 Hg]
  · isplitl [P1] <;> iassumption
  ihave Hr := (owns_halves (c : Thread nD τ) rM fullShare (rB m c)).2 $$ [P2 Hr]
  · isplitl [P2] <;> iassumption
  ihave Hg := (g_join c) $$ [Hg Hgp]
  · isplitl [Hg]
    · iapply (somewhat_of c (gRows c) _) $$ Hg
    · iapply (somewhat_of c (gRows (peer c)) _) $$ Hgp
  ihave Hw := (w_join c) $$ [Hw Hwp]
  · isplitl [Hw]
    · iapply (somewhat_of c (wRows c) _) $$ Hw
    · iapply (somewhat_of c (wRows (peer c)) _) $$ Hwp
  ihave HB := (ready_idle m c 3) $$ HB
  unfold idle
  icases HB with ⟨Hrest, Sa, Sb⟩
  rw [wp_ret]
  imodintro
  iapply Hk
  unfold bodyPost scratch
  rw [bigSep_nine]
  isplitl [V0 V1 V2 V3 V4 V5 V6 V7 V8]
  · isplitl [V0]; · iexact V0
    isplitl [V1]; · iexact V1
    isplitl [V2]; · iexact V2
    isplitl [V3]; · iexact V3
    isplitl [V4]; · iexact V4
    isplitl [V5]; · iexact V5
    isplitl [V6]; · iexact V6
    isplitl [V7]; · iexact V7
    iexact V8
  isplitl [Hrest]; · iexact Hrest
  isplitl [Hg Hq Hw P3 P4 Hpr Hpa Sa Sb]
  · isplitl [Hg]; · iexact Hg
    isplitl [Hq]; · iapply (somewhat_of c qM _) $$ Hq
    isplitl [Hw]; · iexact Hw
    isplitl [P3]; · iapply (somewhat_of c vM _) $$ P3
    isplitl [P4]; · iapply (somewhat_of c psM _) $$ P4
    isplitl [Hpr]; · iapply (somewhat_of c prM _) $$ Hpr
    isplitl [Hpa]; · iapply (somewhat_of c paM _) $$ Hpa
    isplitl [Sa] <;> iassumption
  isplitl [HO]; · iexact HO
  isplitl [Hx]; · iexact Hx
  isplitl [Hr] <;> iassumption

end Cert.Moe
end
-- ==== Proof.Launch.lean ====
/-
# The run: the sixteen devices launched, their bodies run, what the memory holds at the end

`run_main` is stated for any float values.
-/
module

public import proofs.«01_k».proof.Proof.Body
public import Idealize.ShloMosaic.Lib.Pipeline.Launch
public import Idealize.ShloMosaic.Lib.Pipeline.Kit
public import Idealize.ShloMosaic.Lib.Pipeline.CollectiveSegs
public import proofs.«01_k».proof.Proof.Gen.KernelIdeal.Launch

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-! ## The pipeline's data: one grid point -/

/-- Before the body, and after it. -/
def Φ₀ (c : Dev nD) : sProp 𝕄 := iprop((∃ K, records m K ∗ linear c) ∗ levAts L lv ∗ credits c ∗ atRest m c ∗ scratch c)
def Φ₁ (c : Dev nD) : sProp 𝕄 := iprop((bigSep Finset.univ fun k : Fin 9 => semVal (kcell (c, k)) 0) ∗ atRest m c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xB m c
    | ⟨1, _⟩ => rB m c
    | ⟨2, _⟩ => res m c
  Φ t := match t with
    | ⟨0, _⟩ => Φ₀ m c
    | ⟨_ + 1, _⟩ => Φ₁ m c
  q _ := fullShare
  owed t := match t with
    | ⟨0, _⟩ => due c [0, 5, 6, 7, 8]
    | ⟨_ + 1, _⟩ => 0

def t₀ : Fin cfg0.N := t0_0
theorem before_x (c : Dev nD) (d) : (dats m ρ 0 c).before (0 : Fin 3) t₀ d = xB m c := by
  unfold Dat.before; rw [if_pos (show (cfg0.win (0 : Fin 3)).fetch t₀ = true from rfl)]; rfl
theorem before_r (c : Dev nD) (d) : (dats m ρ 0 c).before (1 : Fin 3) t₀ d = rB m c := by
  unfold Dat.before; rw [if_pos (show (cfg0.win (1 : Fin 3)).fetch t₀ = true from rfl)]; rfl

def stepPre (c : Dev nD) : sProp 𝕄 :=
  iprop(Φ₀ m c ∗ (dats m ρ 0 c).owesAt () t₀.castSucc
    ∗ (∃ d, owns (c : Thread nD τ) xM fullShare ((dats m ρ 0 c).before (0 : Fin 3) t₀ d))
    ∗ (∃ d, owns (c : Thread nD τ) rM fullShare ((dats m ρ 0 c).before (1 : Fin 3) t₀ d))
    ∗ (∃ d, owns (c : Thread nD τ) oM fullShare ((dats m ρ 0 c).before (2 : Fin 3) t₀ d)))
def stepPost (c : Dev nD) : sProp 𝕄 :=
  iprop(Φ₁ m c ∗ (dats m ρ 0 c).owesAt () t₀.succ
    ∗ owns (c : Thread nD τ) xM fullShare (xB m c) ∗ owns (c : Thread nD τ) rM fullShare (rB m c) ∗ owns (c : Thread nD τ) oM fullShare (res m c))

theorem step_runs (c : Dev nD) :
    stepPre m ρ c ⊢ runs c (cc0_body (F := F) xM (Memref.isWhole_whole _) rM (Memref.isWhole_whole _) w1M (Memref.isWhole_whole _) w2M (Memref.isWhole_whole _) oM (Memref.isWhole_whole _) gM (Memref.isWhole_whole _)
          qM (Memref.isWhole_whole _) wM (Memref.isWhole_whole _) vM (Memref.isWhole_whole _) psM (Memref.isWhole_whole _) prM (Memref.isWhole_whole _) paM (Memref.isWhole_whole _)
          aM (Memref.isWhole_whole _) bM (Memref.isWhole_whole _) cc0_scratch9 cc0_scratch10 cc0_scratch11) (fun _ => stepPost m ρ c) := by
  unfold stepPre Φ₀ Dat.owesAt Pipeline.owesWithin
  iintro ⟨⟨⟨%K, #HK, Hlin⟩, #Hlev, Hcr, Hrest, Hscr⟩, ⟨%W, %hW, HO⟩, ⟨%d0, Hx⟩, ⟨%d1, Hr⟩, ⟨%d2, Ho⟩⟩
  rw [before_x, before_r]
  rw [show (dats m ρ 0 c).owed t₀.castSucc = due c [0, 5, 6, 7, 8] from rfl]
  iapply (body_runs m K c)
  unfold bodyPre
  isplitr []
  · isplitr; · iexact HK
    isplitr; · iexact Hlev
    isplitl [Hlin]; · iexact Hlin
    isplitl [Hcr]; · iexact Hcr
    isplitl [Hrest]; · iexact Hrest
    isplitl [Hscr]; · iexact Hscr
    isplitl [HO]; · unfold owing; iexists W; iexact HO
    isplitl [Hx]; · iexact Hx
    isplitl [Hr]; · iexact Hr
    iapply (somewhat_of c oM _) $$ Ho
  · unfold bodyPost stepPost Φ₁ owing Dat.owesAt Pipeline.owesWithin
    iintro ⟨HV, Hrest, Hscr, ⟨%W', HO⟩, Hx, Hr, Ho⟩
    rw [show (dats m ρ 0 c).owed t₀.succ = due c [] from rfl]
    isplitl [HV Hrest Hscr]
    · isplitl [HV]; · iexact HV
      isplitl [Hrest] <;> iassumption
    isplitl [HO]
    · iexists W'
      isplitr; · ipureintro; exact fun _ _ => Or.inl trivial
      iexact HO
    isplitl [Hx]; · iexact Hx
    isplitl [Hr] <;> iassumption

set_option maxRecDepth 8000 in
/-- The body meets the pipeline's demand at its one grid point. -/
theorem body_obligation (c : Dev nD) : BodyObligation (dats (F := F) m ρ 0 c) (defs₀ (F := F)) 𝒱₀ () Set.univ := fun t => by
  rw [show t = t₀ from fin_N0 t]
  rw [bigSep_W0, bigSep_W0]
  show stepPre m ρ c ⊢ runs c (cc0_body (F := F) xM (Memref.isWhole_whole _) rM (Memref.isWhole_whole _) w1M (Memref.isWhole_whole _) w2M (Memref.isWhole_whole _) oM (Memref.isWhole_whole _) gM (Memref.isWhole_whole _)
          qM (Memref.isWhole_whole _) wM (Memref.isWhole_whole _) vM (Memref.isWhole_whole _) psM (Memref.isWhole_whole _) prM (Memref.isWhole_whole _) paM (Memref.isWhole_whole _)
          aM (Memref.isWhole_whole _) bM (Memref.isWhole_whole _) cc0_scratch9 cc0_scratch10 cc0_scratch11) (fun _ => stepPost m ρ c)
  exact step_runs m ρ c

/-! ## The launch -/

/-- The kernel's own semaphores: send, receive, and the local copies' two. -/
abbrev osem : Fin 10 → SemLoc sig
  | 0 => csem 1 | 1 => csem 2 | 2 => csem 3 | 3 => csem 4 | 4 => csem 5 | 5 => csem 6 | 6 => csem 7 | 7 => csem 8
  | 8 => .dma (locS 0) | 9 => .dma (locS 1)
theorem ownSemFacts : Pipeline.OwnSemFacts cfg0.spec osem := by decide
theorem share_eq (c : Dev nD) (w : Fin cfg0.W) : (dats m ρ 0 c).share w = fullShare := by unfold Dat.share; split <;> rfl

def cells : Finset (GSem nD τ sig) := Finset.univ.map ⟨kcell, kcell_injective⟩
def dutyOf (ck : Dev nD × Fin 9) : GSem nD τ sig × ℕ × Unit := (kcell ck, 0, ())
theorem dutyOf_injective : Function.Injective dutyOf := fun _ _ h => kcell_injective (congrArg Prod.fst h)
def duties : Finset (GSem nD τ sig × ℕ × Unit) := Finset.univ.map ⟨dutyOf, dutyOf_injective⟩

/-- The ghost state at launch. -/
def u₀ : UU := (initOf (Pipeline.cells cfgs cellOf_inj) (Pipeline.launchToks cfgs cellOf_inj), (initOf cells duties, 1))

/-- A device's two semaphores of the local copies, at rest. -/
def locals (c : Dev nD) : sProp 𝕄 := iprop(semVal ((c : Thread nD τ), .dma (locS 0)) 0 ∗ semVal ((c : Thread nD τ), .dma (locS 1)) 0)

/-- What the launch deals each device, and what the devices make of it together. -/
def G (c : Dev nD) : sProp 𝕄 :=
  iprop((bigSep Finset.univ fun k : Fin 9 => roundState EX (sched m) (kcell (c, k)) 0)
    ∗ (bigSep Finset.univ fun k : Fin 9 => iprop(atPos EX (kcell (c, k)) 0 ∅ 0 ∗ reached EX (kcell (c, k)) 0))
    ∗ bigSep Finset.univ fun k : Fin 9 => dutyTok EX (kcell (c, k)) 0 ())
def G' (c : Dev nD) : sProp 𝕄 := iprop((∃ K, records m K ∗ linear c) ∗ locals c)

theorem fund_cells : BI.own (EX (initOf cells duties)) ⊢ (|==> bigSep Finset.univ (G m) : sProp 𝕄) := by
  have hX (Φ : GSem nD τ sig → sProp 𝕄) : bigSep cells Φ = bigSep Finset.univ fun c : Dev nD => bigSep Finset.univ fun k : Fin 9 => Φ (kcell (c, k)) := by
    unfold cells; rw [bigSep_map, bigSep_univ_prod]; rfl
  have hT : bigSep duties (fun x => (dutyTok EX x.1 x.2.1 x.2.2 : sProp 𝕄))
      = bigSep Finset.univ fun c : Dev nD => bigSep Finset.univ fun k : Fin 9 => dutyTok EX (kcell (c, k)) 0 () := by
    unfold duties; rw [bigSep_map, bigSep_univ_prod]; rfl
  iintro HX
  imod (Rounds.fund EX (sched m) cells duties) $$ HX with ⟨Hst, Hr, Hat, Htok⟩
  imodintro
  ihave Hst := (ent_of_eq (hX fun g => roundState EX (sched m) g 0)) $$ Hst
  ihave Hat := (ent_of_eq (hX fun g => atPos EX g 0 ∅ 0)) $$ Hat
  ihave Hr := (ent_of_eq (hX fun g => reached EX g 0)) $$ Hr
  ihave Htok := (ent_of_eq hT) $$ Htok
  unfold G; simp only [bigSep_sep']
  isplitl [Hst]; · iexact Hst
  isplitl [Hat Hr]
  · isplitl [Hat] <;> iassumption
  iexact Htok

/-! ### The semaphores -/

theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0
        ∗ semVal (kcell (c, 6)) 0 ∗ semVal (kcell (c, 7)) 0 ∗ semVal (kcell (c, 8)) 0
        ∗ semVal ((c : Thread nD τ), .dma (locS 0)) 0 ∗ semVal ((c : Thread nD τ), .dma (locS 1)) 0) := by
  rw [Pipeline.ownSems0_eq_of_list c osem [0, 1, 2, 3, 4, 5, 6, 7, 8, 9] (by decide) (by decide)]; rfl
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

/-- A device's semaphores are the nine of the exchange and the local copies' two. -/
theorem sems_out (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 9 => semVal (kcell (c, k)) 0) ∗ locals c) : sProp 𝕄) := by
  rw [ownSems0_eq, unscopedSems0_eq, bigSep_nine]
  unfold locals
  iintro ⟨⟨H1, H2, H3, H4, H5, H6, H7, H8, HA, HB⟩, H0⟩
  isplitr [HA HB]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7] <;> iassumption
  isplitl [HA] <;> iassumption
theorem sems_in (c : Dev nD) :
    (iprop((bigSep Finset.univ fun k : Fin 9 => semVal (kcell (c, k)) 0) ∗ locals c) : sProp 𝕄)
      ⊢ iprop(Pipeline.ownSems0 (Ix := Unit) (Name := ℕ) (U := UU) (Lvl := ℕ) (Val := Elt F) (τ := τ) osem c ∗ unscopedSems0 c) := by
  rw [ownSems0_eq, unscopedSems0_eq, bigSep_nine]
  unfold locals
  iintro ⟨⟨H0, H1, H2, H3, H4, H5, H6, H7, H8⟩, HA, HB⟩
  isplitr [H0]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HA] <;> iassumption
  iexact H0

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 9 => iprop(∃ κ : ℕ, cellInv EX (sched m) κ (kcell (c, k))))
          ∗ (bigSep Finset.univ fun k : Fin 9 => iprop(atPos EX (kcell (c, k)) 0 ∅ 0 ∗ reached EX (kcell (c, k)) 0))
          ∗ (bigSep Finset.univ fun k : Fin 9 => dutyTok EX (kcell (c, k)) 0 ()) ∗ locals c) := by
  unfold G
  iintro ⟨Hos, Hus, Hst, Hat, Htok⟩
  ihave Hv := (sems_out (F := F) c) $$ [Hos Hus]
  · isplitl [Hos] <;> iassumption
  icases Hv with ⟨Hv, Hloc⟩
  imod (show iprop((bigSep Finset.univ fun k : Fin 9 => semVal (kcell (c, k)) 0) ∗ bigSep Finset.univ fun k : Fin 9 => roundState EX (sched m) (kcell (c, k)) 0)
      ⊢ (|={Set.univ}=> bigSep Finset.univ fun k : Fin 9 => iprop(∃ κ : ℕ, cellInv EX (sched m) κ (kcell (c, k))) : sProp 𝕄) from by
        rw [← bigSep_sep']
        exact (bigSep_mono fun k _ => (Rounds.body_intro EX (sched m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

/-- Whose duty each is, as a permutation: the partner's for what is handed over. -/
def payeeEquiv : Dev nD × Fin 9 ≃ Dev nD × Fin 9 where
  toFun ck := (payee ck.1 ck.2, ck.2)
  invFun ck := (payee ck.1 ck.2, ck.2)
  left_inv := by
    rintro ⟨c, k⟩; refine Prod.ext ?_ rfl
    show payee (payee c k) k = c
    fin_cases k <;> first | rfl | exact peer_peer c
  right_inv := by
    rintro ⟨c, k⟩; refine Prod.ext ?_ rfl
    show payee (payee c k) k = c
    fin_cases k <;> first | rfl | exact peer_peer c

theorem toks_around : (bigSep Finset.univ fun c : Dev nD => bigSep Finset.univ fun k : Fin 9 => (dutyTok EX (kcell (c, k)) 0 () : sProp 𝕄))
    ⊢ bigSep Finset.univ fun c : Dev nD => bigSep Finset.univ fun k : Fin 9 => dutyTok EX (kcell (payee c k, k)) 0 () := by
  rw [← bigSep_univ_prod (fun ck : Dev nD × Fin 9 => (dutyTok EX (kcell ck) 0 () : sProp 𝕄)),
    ← bigSep_univ_prod (fun ck : Dev nD × Fin 9 => (dutyTok EX (kcell (payee ck.1 ck.2, ck.2)) 0 () : sProp 𝕄)),
    bigSep_univ_equiv payeeEquiv (fun ck : Dev nD × Fin 9 => (dutyTok EX (kcell ck) 0 () : sProp 𝕄))]
  exact .rfl

theorem bigSep_beside {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 9 → ℕ) (c : Dev nD) : iprop(records m K ∗ linear c ∗ locals c) ⊢ G' m c := by
  unfold G'
  iintro ⟨HK, Hl, Hloc⟩
  isplitr [Hloc]
  · iexists K
    isplitl [HK] <;> iassumption
  iexact Hloc

theorem regroup :
    (bigSep Finset.univ fun c : Dev nD => iprop((bigSep Finset.univ fun k : Fin 9 => iprop(∃ κ : ℕ, cellInv EX (sched m) κ (kcell (c, k))))
          ∗ (bigSep Finset.univ fun k : Fin 9 => iprop(atPos EX (kcell (c, k)) 0 ∅ 0 ∗ reached EX (kcell (c, k)) 0))
          ∗ (bigSep Finset.univ fun k : Fin 9 => dutyTok EX (kcell (c, k)) 0 ()) ∗ locals c) : sProp 𝕄)
      ⊢ bigSep Finset.univ (G' m) := by
  rw [bigSep_sep', bigSep_sep', bigSep_sep', ← bigSep_univ_prod (fun ck : Dev nD × Fin 9 => iprop(∃ κ : ℕ, cellInv EX (sched m) κ (kcell ck))),
    bigSep_congr (s := Finset.univ) (fun (c : Dev nD) _ => bigSep_sep' Finset.univ (fun k : Fin 9 => (atPos EX (kcell (c, k)) 0 ∅ 0 : sProp 𝕄)) (fun k => reached EX (kcell (c, k)) 0)),
    bigSep_sep', ← bigSep_univ_prod (fun ck : Dev nD × Fin 9 => (reached EX (kcell ck) 0 : sProp 𝕄))]
  iintro ⟨HI, ⟨Hat, #HR⟩, Htok, Hloc⟩
  ihave HK := (BI.bigSep_exists_pi Finset.univ (fun (ck : Dev nD × Fin 9) (κ : ℕ) => (cellInv EX (sched m) κ (kcell ck) : sProp 𝕄))) $$ HI
  icases HK with ⟨%K, #HI⟩
  ihave Htk := (toks_around (F := F)) $$ Htok
  iapply (bigSep_beside (R := records m K) (Φ := fun c => iprop(linear c ∗ locals c)) fun c _ => ghost_intro m K c)
  isplitr
  · unfold records; isplitl; · iexact HI
    iexact HR
  · rw [bigSep_sep']
    isplitr [Hloc]
    · unfold linear
      rw [bigSep_sep']
      isplitl [Hat] <;> iassumption
    iexact Hloc

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem kcell_eq_iff {a b : Dev nD} {k k' : Fin 9} : kcell (a, k) = kcell (b, k') ↔ a = b ∧ k = k' :=
  ⟨fun h => Prod.mk.injEq a k b k' ▸ kcell_injective h, fun ⟨h, h'⟩ => by rw [h, h']⟩

/-- What device `d` owes device `c`'s semaphore `k`: the amount as often as `k` is listed, if `d` is the partner. -/
theorem due_at (d c : Dev nD) (k : Fin 9) (ks : List (Fin 9)) : due d ks (kcell (c, k)) () = if d = peer c then ks.count k * amt k else 0 := by
  have hp : (c = peer d) ↔ d = peer c := ⟨fun h => by rw [h, peer_peer], fun h => by rw [h, peer_peer]⟩
  induction ks with
  | nil => unfold due; split <;> simp
  | cons k' ks ih =>
    unfold due
    rw [Pi.add_apply, Finsupp.add_apply, tallyAt_apply, ih, List.count_cons]
    by_cases h : d = peer c
    · rw [if_pos h, if_pos h]
      by_cases hk : k' = k
      · subst hk; rw [if_pos ⟨kcell_eq_iff.mpr ⟨hp.mpr h, rfl⟩, rfl⟩]; simp [Nat.add_mul]
      · rw [if_neg fun h' => hk (kcell_eq_iff.mp h'.1).2.symm]; simp [hk]
    · rw [if_neg h, if_neg h, if_neg fun h' => h (hp.mp (kcell_eq_iff.mp h'.1).1)]

/-- What all devices owe at launch. -/
def O₀ (c : Dev nD) : CellTallies nD τ sig Unit := due c [0, 5, 6, 7, 8]

theorem launch_at (c : Dev nD) (k : Fin 9) (h : ([0, 5, 6, 7, 8] : List (Fin 9)).count k = 1) :
    tallyOn (kcell (c, k)) (launchCredit (Pipeline.owing O₀) 0 (kcell (c, k))) = (tallyAt (kcell (c, k)) () (amt k) : CellTallies nD τ sig Unit) := by
  unfold tallyAt; refine congrArg _ (Finsupp.ext fun u => ?_); cases u
  rw [Pipeline.launchCredit_owing, Finsupp.single_eq_same, Finset.sum_congr rfl fun d _ => (show O₀ d (kcell (c, k)) () = if d = peer c then amt k else 0 by
      unfold O₀; rw [due_at, h, Nat.one_mul]), Finset.sum_ite_eq' Finset.univ (peer c) fun _ => amt k, if_pos (Finset.mem_univ _)]

theorem creds (c : Dev nD) : (Pipeline.launchCred O₀ c : sProp 𝕄) ⊢ credits c := by
  unfold Pipeline.launchCred credits
  refine (bigSep_subset (Finset.subset_univ (([0, 5, 6, 7, 8] : List (Fin 9)).toFinset.map ⟨csem, csem_injective⟩))).trans ?_
  rw [bigSep_map, bigSep_eq_bigSepL_of_eq [0, 5, 6, 7, 8] (by decide) (by decide)]
  refine (show _ ⊢ iprop(cred (tallyOn (kcell (c, 0)) (launchCredit (Pipeline.owing O₀) 0 (kcell (c, 0)))) ∗ cred (tallyOn (kcell (c, 5)) (launchCredit (Pipeline.owing O₀) 0 (kcell (c, 5))))
    ∗ cred (tallyOn (kcell (c, 6)) (launchCredit (Pipeline.owing O₀) 0 (kcell (c, 6)))) ∗ cred (tallyOn (kcell (c, 7)) (launchCredit (Pipeline.owing O₀) 0 (kcell (c, 7))))
    ∗ cred (tallyOn (kcell (c, 8)) (launchCredit (Pipeline.owing O₀) 0 (kcell (c, 8))))) from .rfl).trans ?_
  rw [launch_at c 0 (by decide), launch_at c 5 (by decide), launch_at c 6 (by decide), launch_at c 7 (by decide), launch_at c 8 (by decide)]

/-! ### The launch theorem's side conditions -/

/-- A device's two arrays of expert matrices, as launched. -/
def experts (c : Dev nD) : sProp 𝕄 :=
  iprop(((c : Thread nD τ).loc main_arg2 ↦{fullShare} m ((c : Thread nD τ).loc main_arg2)) ∗ ((c : Thread nD τ).loc main_arg3 ↦{fullShare} m ((c : Thread nD τ).loc main_arg3)))
/-- A device's start: all but its scratch buffers. -/
def start (c : Dev nD) : sProp 𝕄 := iprop((∃ K, records m K ∗ linear c) ∗ levAts L lv ∗ credits c ∗ atRest m c)

theorem atRest_eq (c : Dev nD) : iprop(experts m c ∗ locals c) ⊢ atRest m c := by
  unfold experts locals atRest
  iintro ⟨⟨H1, H2⟩, H3, H4⟩
  isplitl [H1]; · iexact H1
  isplitl [H2]; · iexact H2
  isplitl [H3] <;> iassumption
theorem atRest_out (c : Dev nD) : atRest m c ⊢ iprop(experts m c ∗ locals c) := by
  unfold experts locals atRest
  iintro ⟨H1, H2, H3, H4⟩
  isplitl [H1 H2]
  · isplitl [H1] <;> iassumption
  isplitl [H3] <;> iassumption

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨Hun, Hlev, Hcr, -, HG⟩
  ihave Hun := (show Pipeline.unscopedRestP Pipeline.Prefetch.none cfg0.spec c (fun b => m ((c : Thread nD τ).loc b)) ⊢ (experts m c : sProp 𝕄) from by
    unfold experts
    rw [Pipeline.unscopedRestP_none]
    exact ent_of_eq (unscopedRest0_eq c (fun b => m ((c : Thread nD τ).loc b)))) $$ Hun
  ihave Hc := (creds (F := F) c) $$ Hcr
  imodintro
  unfold start G'
  icases HG with ⟨HG, Hloc⟩
  isplitl
  · isplitl [HG]; · iexact HG
    isplitl [Hlev]; · iexact Hlev
    isplitl [Hc]; · iexact Hc
    iapply (atRest_eq m c)
    isplitl [Hun] <;> iassumption
  · iempintro

/-- A whole buffer at some contents. -/
theorem some_whole (c : Dev nD) (b : Ref sig .tc) :
    (somewhat c (Memref.whole b) : sProp 𝕄) = iprop(∃ f : Buf (Elt F) ((c : Thread nD τ).loc b), ((c : Thread nD τ).loc b) ↦{fullShare} f) := by
  unfold somewhat; simp only [owns_whole]

theorem scratch_eq (c : Dev nD) : (Pipeline.scopedRest (Ix := Unit) (Name := ℕ) (U := UU) (Lvl := ℕ) (Val := Elt F) cfg0.spec c : sProp 𝕄) = scratch c := by
  rw [scopedRest0_eq]; unfold scratch; simp only [some_whole]

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scratch_eq]
  unfold Φ₀ start
  iintro ⟨⟨H1, H2, H3, H4⟩, -, Hs⟩
  isplitl [H1]; · iexact H1
  isplitl [H2]; · iexact H2
  isplitl [H3]; · iexact H3
  isplitl [H4] <;> iassumption

theorem phi1_exit (c : Dev nD) :
    (dats m ρ 0 c).Φ (Fin.last cfg0.N)
      ⊢ iprop((unscopedSems0 c ∗ experts m c) ∗ Pipeline.ownSems0 osem c ∗ Pipeline.scopedRest cfg0.spec c) := by
  rw [show (dats m ρ 0 c).Φ (Fin.last cfg0.N) = Φ₁ m c from rfl, scratch_eq]
  unfold Φ₁
  iintro ⟨HV, Hrest, Hs⟩
  ihave Hrest := (atRest_out m c) $$ Hrest
  icases Hrest with ⟨He, Hloc⟩
  ihave HS := (sems_in (F := F) c) $$ [HV Hloc]
  · isplitl [HV] <;> iassumption
  icases HS with ⟨Ho, Hu⟩
  isplitl [Hu He]
  · isplitl [Hu] <;> iassumption
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t => by
    have hs : slev (.dma (((cfgs 0).win w).sem s)) = 0 := by fin_cases w <;> fin_cases s <;> decide
    rcases t with ⟨_ | _, ht⟩
    · exact mayWait c _ [0, 5, 6, 7, 8] (by rw [hs]; decide)
    · exact mayWait c _ [] (by rw [hs]; decide)

/-! ### The run -/

/-- The windows' arrays at the end of the run. -/
def finalA (c : Dev nD) (w : Fin cfg0.W) : Buf (Elt F) ((cfg0.win w).arr.view.loc (c : Thread nD τ)) := (dats m ρ 0 c).arrAt w cfg0.N

/-- At the end every device's windowed arrays hold `finalA`, its arrays of expert matrices what they held. -/
def QC : PUnit × MemSt nD τ sig (Elt F) → Prop := fun r => ∀ c : Dev nD,
  (∀ w : Fin cfg0.W, r.2.mem ((cfg0.win w).arr.view.loc (c : Thread nD τ)) = finalA m ρ c w)
    ∧ r.2.mem ((c : Thread nD τ).loc main_arg2) = m ((c : Thread nD τ).loc main_arg2)
    ∧ r.2.mem ((c : Thread nD τ).loc main_arg3) = m ((c : Thread nD τ).loc main_arg3)

theorem experts_read (c : Dev nD) (s' : Phys nD τ sig (Elt F)) :
    iprop(experts m c ∗ SI s') ⊢ (iprop(⌜s'.mem.mem ((c : Thread nD τ).loc main_arg2) = m ((c : Thread nD τ).loc main_arg2)
      ∧ s'.mem.mem ((c : Thread nD τ).loc main_arg3) = m ((c : Thread nD τ).loc main_arg3)⌝ ∗ SI s') : sProp 𝕄) := by
  unfold experts
  iintro ⟨⟨H2, H3⟩, HSI⟩
  icombine HSI H2 gives %h2
  icombine HSI H3 gives %h3
  isplitr; · ipureintro; exact ⟨Buf.eq_of_forall_mem_univ h2, Buf.eq_of_forall_mem_univ h3⟩
  iexact HSI

set_option maxRecDepth 8000 in
/-- From any memory with every semaphore at zero, for any float values: every weakly fair execution of the program on the
    sixteen devices ends, with the windowed arrays at `finalA`, the expert matrices unchanged and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      ihave HX := (show BI.own (embR ((initOf cells duties, 1) : UX × Counters)) ⊢ (BI.own (EX (initOf cells duties)) : sProp 𝕄) from .rfl) $$ HX
      imod (fund_cells m) $$ HX with HG
      imodintro
      isplitl [HP] <;> iassumption)
    (hglob := glob m)
    (hA := fun _ _ => rfl) (hpf := fun _ k => k.elim0)
    (X := start m) (Y := fun c => iprop(unscopedSems0 c ∗ experts m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg2) = m ((c : Thread nD τ).loc main_arg2) ∧ s.mem ((c : Thread nD τ).loc main_arg3) = m ((c : Thread nD τ).loc main_arg3))
    (hY := fun c s' => by
      iintro ⟨⟨Hu, He⟩, -, HSI⟩
      ihave H := (experts_read m c s') $$ [He HSI]
      · isplitl [He] <;> iassumption
      icases H with ⟨%he, HSI⟩
      imod (Pipeline.unscopedSems0_read (X := unscopedSems0 c) (c := c) fupd_intro s') $$ [Hu HSI] with ⟨%hu, HSI⟩
      · isplitl [Hu] <;> iassumption
      imodintro
      isplitr; · ipureintro; exact ⟨hu, he⟩
      iexact HSI)
    (hQ := fun _ h hs => ⟨fun c => ⟨(h c).1, (h c).2.2.2⟩, sem_eq_zero hs fun c => (h c).2.2.1⟩)

/-- The arrays the kernel reads hold at the end what they held. -/
theorem finalA_x (c : Dev nD) : finalA m ρ c (0 : Fin 3) = m (win0_0.arr.view.loc (c : Thread nD τ)) := (dats (F := F) m ρ 0 c).arrAt_in (0 : Fin 3) rfl _
theorem finalA_r (c : Dev nD) : finalA m ρ c (1 : Fin 3) = m (win0_1.arr.view.loc (c : Thread nD τ)) := (dats (F := F) m ρ 0 c).arrAt_in (1 : Fin 3) rfl _

end Cert.Moe
end
-- ==== Proof.Weights.lean ====
/-
  The mathematics of the layer at one token, over the extended reals: the two largest gates' softmax weights, an
  expert's feed-forward product, and the weighted sum over the eight experts. Two ways of writing the weights agree.
-/
module

public import Idealize.ShloMosaic.Lib.IdealHost

@[expose] public section

noncomputable section

namespace Cert.Moe

open Idealize.ShloMosaic
open scoped BigOperators

/-- The largest of the eight gates. -/
def top (g : Fin 8 → EReal) : EReal := Finset.univ.fold max ⊥ g
/-- The largest of the gates below it. -/
def second (g : Fin 8 → EReal) : EReal := Finset.univ.fold max ⊥ fun e => if g e < top g then g e else ⊥
/-- The second one's exponential against the first one's. -/
def ratio (g : Fin 8 → EReal) : EReal := Ideal.exp (second g - top g)
/-- The weight of expert `e`: the softmax of the two largest gates, nothing for the other experts. -/
def weight (g : Fin 8 → EReal) (e : Fin 8) : EReal :=
  Ideal.div (if g e = top g then 1 else if g e = second g then ratio g else 0) (1 + ratio g)

/-- One expert on one token: the product with its first matrix, the negative entries cut off, the product with its second. -/
def expert (x : Fin 1024 → EReal) (a : Fin 1024 → Fin 2048 → EReal) (b : Fin 2048 → Fin 1024 → EReal) (n : Fin 1024) : EReal :=
  ∑ f, max (∑ d, x d * a d f) 0 * b f n

/-- No gate is larger than the largest. -/
theorem le_top (g : Fin 8 → EReal) (e : Fin 8) : g e ≤ top g :=
  (Finset.fold_max_le (top g)).mp le_rfl |>.2 e (Finset.mem_univ e)

/-- To be below the largest gate is to differ from it. -/
theorem lt_top_iff (g : Fin 8 → EReal) (e : Fin 8) : g e < top g ↔ g e ≠ top g := (le_top g e).lt_iff_ne

/-- The runner-up may be found by striking out the gates that equal the largest. -/
theorem second_eq (g : Fin 8 → EReal) : (Finset.univ.fold max ⊥ fun e => if g e = top g then ⊥ else g e) = second g := by
  unfold second
  refine congrArg (fun f => Finset.univ.fold max ⊥ f) (funext fun e => ?_)
  by_cases h : g e = top g
  · rw [if_pos h, if_neg fun h' => (lt_top_iff g e).mp h' h]
  · rw [if_neg h, if_pos ((lt_top_iff g e).mpr h)]

theorem exp_nonneg (x : EReal) : 0 ≤ Ideal.exp x := by
  induction x with
  | bot => exact le_rfl
  | top => exact (_root_.le_top : (0 : EReal) ≤ ⊤)
  | coe r => exact EReal.coe_nonneg.mpr (Real.exp_pos r).le

/-- The normalizer is not zero. -/
theorem one_add_ratio_ne_zero (g : Fin 8 → EReal) : 1 + ratio g ≠ 0 := by
  have h : (1 : EReal) ≤ 1 + ratio g := le_add_of_nonneg_right (exp_nonneg _)
  intro e; rw [e] at h; exact absurd h (by simp)

/-- The weights as two disjoint selections, each already normalized. -/
theorem weight_split (g : Fin 8 → EReal) (e : Fin 8) :
    (if g e = top g then Ideal.div 1 (1 + ratio g) else 0) + (if g e = second g ∧ g e ≠ top g then Ideal.div (ratio g) (1 + ratio g) else 0) = weight g e := by
  unfold weight
  by_cases h : g e = top g
  · rw [if_pos h, if_pos h, if_neg fun h' => h'.2 h, add_zero]
  · rw [if_neg h, if_neg h, zero_add]
    by_cases h' : g e = second g
    · rw [if_pos h', if_pos ⟨h', h⟩]
    · rw [if_neg h', if_neg fun h'' => h' h''.1, Ideal.zero_div (one_add_ratio_ne_zero g)]

/-- One entry of the layer's result: the weighted sum of the eight experts at token `t` and column `n`. -/
def layer {T : ℕ} (x : Fin T → Fin 1024 → EReal) (r : Fin 1024 → Fin 8 → EReal) (w₁ : Fin 8 → Fin 1024 → Fin 2048 → EReal)
    (w₂ : Fin 8 → Fin 2048 → Fin 1024 → EReal) (t : Fin T) (n : Fin 1024) : EReal :=
  ∑ e, expert (x t) (w₁ e) (w₂ e) n * weight (fun e => ∑ d, x t d * r d e) e

end Cert.Moe

end
-- ==== Proof.Values.lean ====
/-
  The kernel's result, read at one index. A device's eight gates are the token's gates whichever of the two router
  blocks is its own; so its weights are the layer's, and its result — its own four experts' terms, and the partner's
  four — is the layer's sum with the terms in another order.
-/
module

public import proofs.«01_k».proof.Proof.Launch
public import proofs.«01_k».proof.Proof.Weights
public import Idealize.ShloMosaic.Lib.Layout
public import Idealize.ShloMosaic.Lib.Pointwise
public import Idealize.ShloMosaic.Lib.ValueLayout
public import Idealize.ShloMosaic.Lib.Pipeline.ValueKit

@[expose] public section

noncomputable section

namespace Cert.Moe

open Cert.KernelIdeal Cert.KernelIdeal.Gen
open Idealize.ShloMosaic

/-! ## The kernel's own arithmetic -/

/-- The eight gates of a token in the experts' order, from the device's own router block and the other one. -/
def gates (y : BitVec 32) (x : FVec Ideal S512x1024 .f32) (r r' : FVec Ideal S1024x4 .f32) (t : Fin 512) (e : Fin 8) : EReal :=
  Scalar.select (Scalar.cmpi .eq y 0#32)
    (if h : e.val < 4 then ∑ d, x (ix2 t d) * r (ix2 d ⟨e.val, h⟩) else ∑ d, x (ix2 t d) * r' (ix2 d ⟨e.val - 4, by omega⟩))
    (if h : e.val < 4 then ∑ d, x (ix2 t d) * r' (ix2 d ⟨e.val, h⟩) else ∑ d, x (ix2 t d) * r (ix2 d ⟨e.val - 4, by omega⟩))

/-- The word of the maximum's lower end reads −∞. -/
theorem bits_neg_inf : Ideal.ofBits .f32 0xFF800000#32 = ⊥ := by simp [Ideal.ofBits, Ideal.ieee]
/-- The named constant is −∞. -/
theorem named_neg : (Named.named κ "neg" 0xF149F2CA#32 : Ideal .f32) = ⊥ := rfl

/-- A selection on "the one and not the other", computed on bits. -/
theorem select_andNot (p q : Prop) [Decidable p] [Decidable q] (a : EReal) :
    Scalar.select (IntOp.andi (BitVec.ofBool (decide p)) (IntOp.xori (BitVec.ofBool (decide q)) 1#1)) a 0 = if p ∧ ¬ q then a else 0 := by
  by_cases hp : p <;> by_cases hq : q <;> simp [hp, hq, Scalar.select, IntOp.andi, IntOp.xori]

theorem select_one (a b : EReal) : Scalar.select 1#1 a b = a := rfl
theorem select_zero (a b : EReal) : Scalar.select 0#1 a b = b := rfl

/-- The kernel's weight at token `t` and expert `e` is the layer's weight of the gates. -/
theorem weights_apply (y : BitVec 32) (x : FVec Ideal S512x1024 .f32) (r r' : FVec Ideal S1024x4 .f32) (t : Fin 512) (e : Fin 8) :
    (k0_pay2 (F := Ideal) y x r r' (ix2 t e) : EReal) = weight (gates y x r r' t) e := by
  rw [← weight_split]
  pointwise [k0_pay2]
  simp only [bits_neg_inf, named_neg, select_andNot]
  unfold ratio
  rw [← second_eq]
  rfl

variable (m : (ℓ : Loc nD τ sig) → Buf (Elt Ideal) ℓ)

/-- Expert `e` of device `p` on device `c`'s token `t`, at column `n`. -/
def term (c p : Dev nD) (e : Fin 4) (t : Fin 512) (n : Fin 1024) : EReal :=
  expert (fun d => xB m c (ix2 t d)) (fun d f => w1 m p e (ix2 d f)) (fun f n => w2 m p e (ix2 f n)) n

/-- A device's result: its own experts on its tokens with its weights, and the partner's experts on the same tokens. -/
theorem res_apply (c : Dev nD) (t : Fin 512) (n : Fin 1024) :
    (res m c (ix2 t n) : EReal)
      = (term m c c 0 t n * mine m c (ix2 t 0) + term m c c 1 t n * mine m c (ix2 t 1)
          + term m c c 2 t n * mine m c (ix2 t 2) + term m c c 3 t n * mine m c (ix2 t 3))
        + (term m c (peer c) 0 t n * theirs m c (ix2 t 0) + term m c (peer c) 1 t n * theirs m c (ix2 t 1)
          + term m c (peer c) 2 t n * theirs m c (ix2 t 2) + term m c (peer c) 3 t n * theirs m c (ix2 t 3)) := by
  pointwise [res, o3, o2, o1, o0, p3, p2, p1, p0, xh, k0_pay1, k0_pay7, k0_pay8, k0_pay9, k0_pay10, k0_pay11, k0_pay12, k0_pay13,
    k0_pay14, k0_pay15, k0_pay16, k0_pay17, k0_pay18, k0_pay19, k0_pay20, k0_pay21, k0_pay22, k0_pay23, k0_pay24, k0_pay25, k0_pay26]
  rw [peer_peer]
  rfl

/-! ## A device's place among the blocks -/

/-- The device's coordinate on the axis that the arrays are cut over. -/
abbrev side (c : Dev nD) : ℕ := c.val / 4 % 2
theorem side_lt (c : Dev nD) : side c < 2 := Nat.mod_lt _ (by decide)
/-- The partner has the other coordinate. -/
theorem side_peer (c : Dev nD) : side (peer c) = 1 - side c := by revert c; decide
/-- The kernel's word for the coordinate is zero where the coordinate is. -/
theorem yw_eq (c : Dev nD) : Scalar.cmpi .eq (yw c) 0#32 = if side c = 0 then 1#1 else 0#1 := by revert c; decide

/-- The row of the whole array that is row `t` of the device's block. -/
def row (c : Dev nD) (t : Fin 512) : Fin 1024 := ⟨512 * side c + t.val, by have := side_lt c; omega⟩
/-- The expert that is the device's expert `e`. -/
def own (c : Dev nD) (e : Fin 4) : Fin 8 := ⟨4 * side c + e.val, by have := side_lt c; omega⟩

theorem own_zero {c : Dev nD} (h : side c = 0) (e : Fin 4) : own c e = ⟨e.val, by omega⟩ := Fin.ext (by show 4 * side c + e.val = e.val; omega)
theorem own_one {c : Dev nD} (h : side c = 1) (e : Fin 4) : own c e = ⟨4 + e.val, by omega⟩ := Fin.ext (by show 4 * side c + e.val = 4 + e.val; omega)

/-- The device's block of the tokens, read at an index. -/
theorem block_x (X : Vec Ideal ⟨2, ![1024, 1024]⟩ .f32) (c : Dev nD) (t : Fin 512) (d : Fin 1024) :
    (Layout.blockN ⟨2, ![512, 1024]⟩ ⟨2, ![1024, 1024]⟩ (Layout.meshBlock [2, 2, 4] ![[1], []] c) X : Vec Ideal S512x1024 .f32) (ix2 t d)
      = X (ix2 (row c t) d) := by
  unfold Layout.blockN
  refine congrArg X (funext fun a => Fin.ext ?_)
  rw [Layout.TilesN.idx_val]
  match a with
  | 0 => show ((c.val / 4) % 2 * 1 + 0) * 512 + t.val = 512 * (c.val / 4 % 2) + t.val; omega
  | 1 => show 0 * 1024 + d.val = d.val; omega

/-- The device's block of the router. -/
theorem block_r (R : Vec Ideal ⟨2, ![1024, 8]⟩ .f32) (c : Dev nD) (d : Fin 1024) (e : Fin 4) :
    (Layout.blockN ⟨2, ![1024, 4]⟩ ⟨2, ![1024, 8]⟩ (Layout.meshBlock [2, 2, 4] ![[], [1]] c) R : Vec Ideal S1024x4 .f32) (ix2 d e)
      = R (ix2 d (own c e)) := by
  unfold Layout.blockN
  refine congrArg R (funext fun a => Fin.ext ?_)
  rw [Layout.TilesN.idx_val]
  match a with
  | 0 => show 0 * 1024 + d.val = d.val; omega
  | 1 => show ((c.val / 4) % 2 * 1 + 0) * 4 + e.val = 4 * (c.val / 4 % 2) + e.val; omega

/-- The device's block of the experts' first matrices. -/
theorem block_w1 (W : Vec Ideal ⟨3, ![8, 1024, 2048]⟩ .f32) (c : Dev nD) (e : Fin 4) (d : Fin 1024) (f : Fin 2048) :
    (Layout.blockN ⟨3, ![4, 1024, 2048]⟩ ⟨3, ![8, 1024, 2048]⟩ (Layout.meshBlock [2, 2, 4] ![[1], [], []] c) W : Vec Ideal S4x1024x2048 .f32) (ix3 e d f)
      = W (ix3 (own c e) d f) := by
  unfold Layout.blockN
  refine congrArg W (funext fun a => Fin.ext ?_)
  rw [Layout.TilesN.idx_val]
  match a with
  | 0 => show ((c.val / 4) % 2 * 1 + 0) * 4 + e.val = 4 * (c.val / 4 % 2) + e.val; omega
  | 1 => show 0 * 1024 + d.val = d.val; omega
  | 2 => show 0 * 2048 + f.val = f.val; omega

/-- The device's block of the experts' second matrices. -/
theorem block_w2 (W : Vec Ideal ⟨3, ![8, 2048, 1024]⟩ .f32) (c : Dev nD) (e : Fin 4) (f : Fin 2048) (n : Fin 1024) :
    (Layout.blockN ⟨3, ![4, 2048, 1024]⟩ ⟨3, ![8, 2048, 1024]⟩ (Layout.meshBlock [2, 2, 4] ![[1], [], []] c) W : Vec Ideal S4x2048x1024 .f32) (ix3 e f n)
      = W (ix3 (own c e) f n) := by
  unfold Layout.blockN
  refine congrArg W (funext fun a => Fin.ext ?_)
  rw [Layout.TilesN.idx_val]
  match a with
  | 0 => show ((c.val / 4) % 2 * 1 + 0) * 4 + e.val = 4 * (c.val / 4 % 2) + e.val; omega
  | 1 => show 0 * 2048 + f.val = f.val; omega
  | 2 => show 0 * 1024 + n.val = n.val; omega

/-! ## What the kernel reads of its blocks -/

/-- The first window is the device's whole block of tokens. -/
theorem xB_apply (c : Dev nD) (t : Fin 512) (d : Fin 1024) : (xB m c (ix2 t d) : EReal) = m ((c.tc : Thread nD τ).loc main_arg0) (ix2 t d) := by
  unfold xB
  blk_ext
  · show 0 * 512 + t.val = t.val; omega
  · show 0 * 1024 + d.val = d.val; omega

/-- The second window is the device's whole block of the router. -/
theorem rB_apply (c : Dev nD) (d : Fin 1024) (e : Fin 4) : (rB m c (ix2 d e) : EReal) = m ((c.tc : Thread nD τ).loc main_arg1) (ix2 d e) := by
  unfold rB
  blk_ext
  · show 0 * 1024 + d.val = d.val; omega
  · show 0 * 4 + e.val = e.val; omega

/-- A plane of the device's block of first matrices, read as a matrix. -/
theorem plane_w1 (c : Dev nD) (o : ℕ) (h : o < 4) (inb : ∀ a, (![o, 0, 0] : Fin 3 → ℕ) a + S1x1024x2048.size a ≤ S4x1024x2048.size a) (d : Fin 1024) (f : Fin 2048) :
    ((((w1M.slice (Rect.unit (s := S4x1024x2048) ![o, 0, 0] S1x1024x2048.size inb) (fun _ => rfl)).squeeze S1024x2048
        squeezes_S1x1024x2048_S1024x2048).view.read (Elt Ideal) (m ((c.tc : Thread nD τ).loc main_arg2)) : Vec Ideal S1024x2048 .f32) (ix2 d f) : EReal)
      = m ((c.tc : Thread nD τ).loc main_arg2) (ix3 (⟨o, h⟩ : Fin 4) d f) := by
  show shapeCast S1024x2048 ((w1M.slice (Rect.unit (s := S4x1024x2048) ![o, 0, 0] S1x1024x2048.size inb) (fun _ => rfl)).view.read
    (Elt Ideal) (m ((c.tc : Thread nD τ).loc main_arg2))) (show S1x1024x2048.ShapeCasts S1024x2048 by decide) (ix2 d f) = _
  refine (ValueIdx.shapeCast_1ab_ab_apply _ _ _ _).trans (congrArg (m ((c.tc : Thread nD τ).loc main_arg2)) (funext fun a => Fin.ext ?_))
  match a with
  | 0 => rfl
  | 1 => show 0 + 1 * d.val = d.val; omega
  | 2 => show 0 + 1 * f.val = f.val; omega

/-- The same for the second matrices. -/
theorem plane_w2 (c : Dev nD) (o : ℕ) (h : o < 4) (inb : ∀ a, (![o, 0, 0] : Fin 3 → ℕ) a + S1x2048x1024.size a ≤ S4x2048x1024.size a) (f : Fin 2048) (n : Fin 1024) :
    ((((w2M.slice (Rect.unit (s := S4x2048x1024) ![o, 0, 0] S1x2048x1024.size inb) (fun _ => rfl)).squeeze S2048x1024
        squeezes_S1x2048x1024_S2048x1024).view.read (Elt Ideal) (m ((c.tc : Thread nD τ).loc main_arg3)) : Vec Ideal S2048x1024 .f32) (ix2 f n) : EReal)
      = m ((c.tc : Thread nD τ).loc main_arg3) (ix3 (⟨o, h⟩ : Fin 4) f n) := by
  show shapeCast S2048x1024 ((w2M.slice (Rect.unit (s := S4x2048x1024) ![o, 0, 0] S1x2048x1024.size inb) (fun _ => rfl)).view.read
    (Elt Ideal) (m ((c.tc : Thread nD τ).loc main_arg3))) (show S1x2048x1024.ShapeCasts S2048x1024 by decide) (ix2 f n) = _
  refine (ValueIdx.shapeCast_1ab_ab_apply _ _ _ _).trans (congrArg (m ((c.tc : Thread nD τ).loc main_arg3)) (funext fun a => Fin.ext ?_))
  match a with
  | 0 => rfl
  | 1 => show 0 + 1 * f.val = f.val; omega
  | 2 => show 0 + 1 * n.val = n.val; omega

/-- The matrix brought in for expert `e` is plane `e` of the device's block. -/
theorem w1_apply (c : Dev nD) (e : Fin 4) (d : Fin 1024) (f : Fin 2048) :
    (w1 m c e (ix2 d f) : EReal) = m ((c.tc : Thread nD τ).loc main_arg2) (ix3 e d f) := by
  match e with
  | 0 => exact plane_w1 m c _ _ _ _ _
  | 1 => exact plane_w1 m c _ _ _ _ _
  | 2 => exact plane_w1 m c _ _ _ _ _
  | 3 => exact plane_w1 m c _ _ _ _ _

/-- The same for the second matrix. -/
theorem w2_apply (c : Dev nD) (e : Fin 4) (f : Fin 2048) (n : Fin 1024) :
    (w2 m c e (ix2 f n) : EReal) = m ((c.tc : Thread nD τ).loc main_arg3) (ix3 e f n) := by
  match e with
  | 0 => exact plane_w2 m c _ _ _ _ _
  | 1 => exact plane_w2 m c _ _ _ _ _
  | 2 => exact plane_w2 m c _ _ _ _ _
  | 3 => exact plane_w2 m c _ _ _ _ _

/-! ## The result is the layer's block -/

section
variable (X : Vec Ideal ⟨2, ![1024, 1024]⟩ .f32) (R : Vec Ideal ⟨2, ![1024, 8]⟩ .f32)
  (W₁ : Vec Ideal ⟨3, ![8, 1024, 2048]⟩ .f32) (W₂ : Vec Ideal ⟨3, ![8, 2048, 1024]⟩ .f32)

/-- The devices' arguments are their blocks of the four whole arrays. -/
structure Blocks : Prop where
  x : ∀ c t d, (xB m c (ix2 t d) : EReal) = X (ix2 (row c t) d)
  r : ∀ c d e, (rB m c (ix2 d e) : EReal) = R (ix2 d (own c e))
  w₁ : ∀ c e d f, (w1 m c e (ix2 d f) : EReal) = W₁ (ix3 (own c e) d f)
  w₂ : ∀ c e f n, (w2 m c e (ix2 f n) : EReal) = W₂ (ix3 (own c e) f n)

/-- The gates of row `t` of the whole array. -/
abbrev gate (t : Fin 1024) (e : Fin 8) : EReal := ∑ d, (X (ix2 t d) : EReal) * R (ix2 d e)

variable {m X R W₁ W₂}

/-- A device's gates are those of its rows, on either side. -/
theorem gates_eq (hb : Blocks m X R W₁ W₂) (c : Dev nD) (t : Fin 512) :
    gates (yw c) (xB m c) (rB m c) (rB m (peer c)) t = gate X R (row c t) := by
  funext e
  have hp := side_peer c
  unfold gates
  rw [yw_eq]
  have key : ∀ (p : Dev nD) (i : Fin 4), own p i = e → (∑ d, (xB m c (ix2 t d) : EReal) * rB m p (ix2 d i)) = gate X R (row c t) e :=
    fun p i h => Finset.sum_congr rfl fun d _ => by rw [hb.x, hb.r, h]
  have hs := side_lt c
  by_cases h0 : side c = 0
  · rw [if_pos h0, select_one]
    split
    · exact key c _ (Fin.ext (by show 4 * side c + e.val = e.val; omega))
    · exact key (peer c) _ (Fin.ext (by show 4 * side (peer c) + (e.val - 4) = e.val; omega))
  · rw [if_neg h0, select_zero]
    split
    · exact key (peer c) _ (Fin.ext (by show 4 * side (peer c) + e.val = e.val; omega))
    · exact key c _ (Fin.ext (by show 4 * side c + (e.val - 4) = e.val; omega))

/-- The weights a device keeps are those of its own experts. -/
theorem mine_apply (hb : Blocks m X R W₁ W₂) (c : Dev nD) (t : Fin 512) (e : Fin 4) :
    (mine m c (ix2 t e) : EReal) = weight (gate X R (row c t)) (own c e) := by
  pointwise [mine, wlo, whi, k0_pay5, k0_pay3, k0_pay4]
  rw [yw_eq, weights_apply, weights_apply, gates_eq hb]
  have hs := side_lt c
  by_cases h0 : side c = 0
  · rw [if_pos h0, select_one, own_zero h0]
  · rw [if_neg h0, select_zero, own_one (by omega)]

/-- The weights it sends are those of the partner's. -/
theorem theirs_apply (hb : Blocks m X R W₁ W₂) (c : Dev nD) (t : Fin 512) (e : Fin 4) :
    (theirs m c (ix2 t e) : EReal) = weight (gate X R (row c t)) (own (peer c) e) := by
  pointwise [theirs, wlo, whi, k0_pay6, k0_pay3, k0_pay4]
  rw [yw_eq, weights_apply, weights_apply, gates_eq hb]
  have hs := side_lt c
  have hp := side_peer c
  by_cases h0 : side c = 0
  · rw [if_pos h0, select_one, own_one (by omega)]
  · rw [if_neg h0, select_zero, own_zero (by omega)]

/-- One expert's term, in the whole arrays. -/
theorem term_eq (hb : Blocks m X R W₁ W₂) (c p : Dev nD) (e : Fin 4) (t : Fin 512) (n : Fin 1024) :
    term m c p e t n = expert (fun d => X (ix2 (row c t) d)) (fun d f => W₁ (ix3 (own p e) d f)) (fun f n => W₂ (ix3 (own p e) f n)) n := by
  unfold term expert
  refine Finset.sum_congr rfl fun f _ => ?_
  show max (∑ d, (xB m c (ix2 t d) : EReal) * w1 m p e (ix2 d f)) 0 * (w2 m p e (ix2 f n) : EReal) = _
  rw [hb.w₂]
  refine congrArg (fun z => max z 0 * (W₂ (ix3 (own p e) f n) : EReal)) (Finset.sum_congr rfl fun d _ => ?_)
  rw [hb.x, hb.w₁]

/-- **The device's result is the layer's, at its rows.** -/
theorem res_eq (hb : Blocks m X R W₁ W₂) (c : Dev nD) (t : Fin 512) (n : Fin 1024) :
    (res m c (ix2 t n) : EReal)
      = layer (fun t d => X (ix2 t d)) (fun d e => R (ix2 d e)) (fun e d f => W₁ (ix3 e d f)) (fun e f n => W₂ (ix3 e f n)) (row c t) n := by
  rw [res_apply]
  simp only [term_eq hb, mine_apply hb, theirs_apply hb]
  unfold layer
  rw [Fin.sum_univ_eight]
  have hs := side_lt c
  have hp := side_peer c
  by_cases h0 : side c = 0
  · simp only [own_zero h0, own_one (c := peer c) (by omega)]
    simp only [add_assoc]
    rfl
  · simp only [own_one (c := c) (by omega), own_zero (c := peer c) (by omega)]
    rw [add_comm]
    simp only [add_assoc]
    rfl

end

end Cert.Moe

end
-- ==== Proof.Reference.lean ====
/-
  The reference's result, read at one index: entry (t, n) is the layer's entry.
-/
module

public import proofs.«01_k».proof.Proof.Weights
public import proofs.«01_k».proof.Proof.Gen.ReferenceIdeal.Run
public import Idealize.ShloMosaic.Lib.Pointwise

@[expose] public section

noncomputable section

namespace Cert.Moe

open Cert.ReferenceIdeal
open Idealize.ShloMosaic

/-- The word of the reference's lower end of the maximum reads −∞. -/
theorem ofBits_neg_inf : Ideal.ofBits .f32 0xFF800000#32 = ⊥ := by simp [Ideal.ofBits, Ideal.ieee]

variable (m : (ℓ : Loc nD τ sig) → Buf (Elt Ideal) ℓ)

/-- Every entry of the reference's result is the layer's entry of the four arguments. -/
theorem reference_apply (t n : Fin 1024) :
    (Value.res_out0 m 0 (ix2 t n) : EReal)
      = layer (fun t d => m ((Dev.tc 0).loc main_arg0) (ix2 t d)) (fun d e => m ((Dev.tc 0).loc main_arg1) (ix2 d e))
          (fun e d f => m ((Dev.tc 0).loc main_arg2) (ix3 e d f)) (fun e f n => m ((Dev.tc 0).loc main_arg3) (ix3 e f n)) t n := by
  pointwise [Value.res_main_v116]
  simp only [id, constant, show (FloatOps.ofBits .f32 0xFF800000#32 : Ideal .f32) = ⊥ from ofBits_neg_inf, ofBits_neg_inf,
    show (FloatOps.ofBits .f32 0x3F800000#32 : Ideal .f32) = (1 : EReal) from Ideal.ofBits_one_f32,
    show (FloatOps.ofBits .f32 0x00000000#32 : Ideal .f32) = (0 : EReal) from Ideal.ofBits_zero_f32]
  unfold layer
  simp only [Fin.sum_univ_eight]
  rfl

end Cert.Moe

end
-- ==== Proof.ByPlace.lean ====
/-
  The layer with the two experts picked by sorting. Where the largest gate of a token is below infinity and it and the
  next smaller one occur once each, the two first places of the sorted gates carry the weights of the layer's two picked
  experts, and the sum over picks is the layer's sum over experts.
-/
module

public import proofs.«01_k».proof.Defs
public import proofs.«01_k».proof.Proof.Reference
public import proofs.«01_k».proof.Proof.Gen.ByPlaceIdeal.Run
public import proofs.«01_k».proof.Proof.Gen.Pre_two_clear_gates
public import Idealize.ShloMosaic.Lib.Pointwise
public import Idealize.ShloMosaic.Lib.SortFacts

@[expose] public section

noncomputable section

namespace Cert.Moe

open Idealize.ShloMosaic
open scoped BigOperators

/-! ## Gates in falling order -/

/-- The expert in place `k` when the gates are sorted, the largest first, equal ones in order. -/
def place (g : Fin 8 → EReal) (k : Fin 8) : Fin 8 :=
  sortedFrom (fun i j => FloatOps.cmpfTotal (F := Ideal) (φ := .f32) .gt (g i) (g j) == 1#1) k

/-- The comparison that sorts, as an order of extended reals. -/
theorem before_iff (x y : EReal) : (FloatOps.cmpfTotal (F := Ideal) (φ := .f32) .gt x y == 1#1) = decide (y < x) := by
  show (BitVec.ofBool (decide (x > y)) == 1#1) = _
  by_cases h : y < x
  · simp [h]
  · simp [h]

/-- A later place holds no larger gate. -/
theorem place_anti (g : Fin 8 → EReal) {i j : Fin 8} (h : i < j) : g (place g j) ≤ g (place g i) := by
  have hb := sortedFrom_noInversion (fun i j => FloatOps.cmpfTotal (F := Ideal) (φ := .f32) .gt (g i) (g j) == 1#1)
    (fun i j => FloatOps.cmpfTotal (F := Ideal) (φ := .f32) .gt (g i) (g j) == 1#1)
    (fun a b => by simp only [before_iff, decide_eq_true_eq, decide_eq_false_iff_not]; exact fun h => lt_asymm h)
    (fun a b h => h)
    (fun a b c => by simp only [before_iff, decide_eq_false_iff_not, not_lt]; exact fun h₁ h₂ => h₁.trans h₂) i j h
  rw [before_iff, decide_eq_false_iff_not, not_lt] at hb
  exact hb

/-- Every expert has a place. -/
theorem place_surjective (g : Fin 8 → EReal) : Function.Surjective (place g) := sortedFrom_surjective _

/-- No two places hold one expert. -/
theorem place_injective (g : Fin 8 → EReal) : Function.Injective (place g) := sortedFrom_injective _

/-- The first place holds the largest gate. -/
theorem place_zero (g : Fin 8 → EReal) : g (place g 0) = top g := by
  refine le_antisymm (le_top g _) ((Finset.fold_max_le _).mpr ⟨bot_le, fun e _ => ?_⟩)
  obtain ⟨k, rfl⟩ := place_surjective g e
  rcases Nat.eq_zero_or_pos k.val with h | h
  · rw [show k = 0 from Fin.ext h]
  · exact place_anti g (Fin.lt_def.mpr h)

/-- What the precondition says of one token's gates. -/
structure Clear (g : Fin 8 → EReal) : Prop where
  /-- The largest gate is below infinity. -/
  lt : top g < ⊤
  /-- The largest gate occurs once. -/
  top : ∃ a, g a = top g ∧ ∀ b, g b = top g → b = a
  /-- The next smaller gate occurs once. -/
  second : ∃ a, g a = second g ∧ ∀ b, g b = second g → b = a

variable {g : Fin 8 → EReal}

/-- Only the first place holds the largest gate. -/
theorem Clear.eq_zero (h : Clear g) {e : Fin 8} (he : g e = Cert.Moe.top g) : e = place g 0 := by
  obtain ⟨a, _, ha⟩ := h.top
  rw [ha e he, ha _ (place_zero g)]

/-- The second place's gate is below the largest. -/
theorem Clear.one_lt (h : Clear g) : g (place g 1) < Cert.Moe.top g :=
  (lt_top_iff g _).mpr fun he => absurd (place_injective g (h.eq_zero he)) (by decide)

/-- The second place holds the next smaller gate. -/
theorem Clear.place_one (h : Clear g) : g (place g 1) = Cert.Moe.second g := by
  refine le_antisymm ?_ ((Finset.fold_max_le _).mpr ⟨bot_le, fun e _ => ?_⟩)
  · refine (Finset.le_fold_max _).mpr (Or.inr ⟨place g 1, Finset.mem_univ _, ?_⟩)
    rw [if_pos h.one_lt]
  · by_cases he : g e < Cert.Moe.top g
    · rw [if_pos he]
      obtain ⟨k, rfl⟩ := place_surjective g e
      have hk : k ≠ 0 := fun hk => absurd (place_zero g) (by rw [hk] at he; exact he.ne)
      rcases lt_or_eq_of_le (show 1 ≤ k.val from Nat.pos_of_ne_zero fun h => hk (Fin.ext h)) with h₁ | h₁
      · exact place_anti g (Fin.lt_def.mpr h₁)
      · rw [show k = 1 from Fin.ext h₁.symm]
    · rw [if_neg he]; exact bot_le

/-- Only the second place holds the next smaller gate. -/
theorem Clear.eq_one (h : Clear g) {e : Fin 8} (he : g e = Cert.Moe.second g) : e = place g 1 := by
  obtain ⟨a, _, ha⟩ := h.second
  rw [ha e he, ha _ h.place_one]

/-- The weights by place. -/
theorem Clear.weight_eq (h : Clear g) (e : Fin 8) :
    weight g e = if e = place g 0 then Ideal.div 1 (1 + ratio g) else if e = place g 1 then Ideal.div (ratio g) (1 + ratio g) else 0 := by
  unfold weight
  by_cases h₀ : e = place g 0
  · rw [if_pos h₀, if_pos (by rw [h₀]; exact place_zero g)]
  · rw [if_neg h₀, if_neg fun he => h₀ (h.eq_zero he)]
    by_cases h₁ : e = place g 1
    · rw [if_pos h₁, if_pos (by rw [h₁]; exact h.place_one)]
    · rw [if_neg h₁, if_neg fun he => h₁ (h.eq_one he), Ideal.zero_div (one_add_ratio_ne_zero g)]

/-- The largest gate against itself: a gate below infinity with a smaller one beside it is a real number. -/
theorem Clear.exp_top (h : Clear g) : Ideal.exp (Cert.Moe.top g - Cert.Moe.top g) = 1 := by
  have hb : Cert.Moe.top g ≠ ⊥ := (bot_le.trans_lt h.one_lt).ne'
  rw [EReal.sub_self h.lt.ne hb]
  show ((Real.exp 0 : ℝ) : EReal) = 1
  rw [Real.exp_zero]; rfl

/-- A term taken where the expert is the one picked. -/
theorem pick (a k : Fin 8) (w : BitVec 32) (hw : w = BitVec.ofNat 32 k.val) (u v : EReal) :
    Scalar.select (IntOp.cmpi .eq (BitVec.ofNat 32 a.val) w) u v = if k = a then u else v := by
  have hc : IntOp.cmpi .eq (BitVec.ofNat 32 a.val) w = if k = a then 1#1 else 0#1 := by
    subst hw; revert a k; decide +kernel
  rw [hc]
  by_cases h : k = a
  · rw [if_pos h, if_pos h]; rfl
  · rw [if_neg h, if_neg h]; rfl

/-! ## The precondition at a token -/

/-- A count of eight marks that is one: exactly one mark. -/
theorem count_one (q : Fin 8 → Bool) (h : Finset.univ.fold IntOp.addi 0#32 (fun e => if q e then 1#32 else 0#32) = 1#32) :
    ∃ a, q a = true ∧ ∀ b, q b = true → b = a := by
  revert q
  decide +kernel

/-- The count of the gates that equal a value. -/
theorem once_iff (v : EReal) (h : IntOp.cmpi .eq (Finset.univ.fold IntOp.addi 0#32 (fun e => if g e = v then 1#32 else 0#32)) 1#32 = 1#1) :
    ∃ a, g a = v ∧ ∀ b, g b = v → b = a := by
  have h' : Finset.univ.fold IntOp.addi 0#32 (fun e => if decide (g e = v) then 1#32 else 0#32) = 1#32 := by
    simp only [decide_eq_true_eq]
    by_contra hn
    have : IntOp.cmpi .eq (Finset.univ.fold IntOp.addi 0#32 (fun e => if g e = v then 1#32 else 0#32)) 1#32 = 0#1 := by
      show BitVec.ofBool (_ == _) = _
      rw [beq_eq_false_iff_ne.mpr hn]; rfl
    rw [this] at h; exact absurd h (by decide)
  obtain ⟨a, ha, hb⟩ := count_one _ h'
  exact ⟨a, of_decide_eq_true ha, fun b he => hb b (decide_eq_true he)⟩

/-- A mark of one is a true condition. -/
theorem true_of_ofBool (b : Bool) (h : BitVec.ofBool b = 1#1) : b = true := by
  revert b; decide

/-- The word of the upper end reads +∞. -/
theorem ofBits_pos_inf : Ideal.ofBits .f32 0x7F800000#32 = ⊤ := by simp [Ideal.ofBits, Ideal.ieee]

/-- The precondition, read at one token. -/
theorem clear_of_pre (x : FVec Ideal ⟨2, ![1024, 1024]⟩ .f32) (r : FVec Ideal ⟨2, ![1024, 8]⟩ .f32)
    (w₁ : FVec Ideal ⟨3, ![8, 1024, 2048]⟩ .f32) (w₂ : FVec Ideal ⟨3, ![8, 2048, 1024]⟩ .f32)
    (h : (Cert.Pre_two_clear_gates.fn (F := Ideal) x r w₁ w₂).1 = (fun _ => 1#1) ∧ (Cert.Pre_two_clear_gates.fn (F := Ideal) x r w₁ w₂).2.1 = (fun _ => 1#1)
      ∧ (Cert.Pre_two_clear_gates.fn (F := Ideal) x r w₁ w₂).2.2 = (fun _ => 1#1)) (t : Fin 1024) :
    Clear fun e => ∑ d, x (ix2 t d) * r (ix2 d e) := by
  obtain ⟨h₁, h₂, h₃⟩ := h
  replace h₁ := congrFun h₁ (ix2 t 0)
  replace h₂ := congrFun h₂ (ix1 t)
  replace h₃ := congrFun h₃ (ix1 t)
  pointwise [Cert.Pre_two_clear_gates.fn, Cert.Pre_two_clear_gates.fn_part1, Cert.Pre_two_clear_gates.fn_where, Cert.Pre_two_clear_gates.fn_where_0] at h₁ h₂ h₃
  simp only [id] at h₂ h₃
  pointwise at h₂
  pointwise at h₃
  rw [ofBits_neg_inf, ofBits_pos_inf] at h₁
  rw [ofBits_neg_inf] at h₂
  simp only [ofBits_neg_inf] at h₃
  refine ⟨?_, once_iff _ h₂, once_iff _ h₃⟩
  exact of_decide_eq_true (true_of_ofBool _ h₁)

/-! ## The program that sorts, read at an index -/

open Cert.ByPlaceIdeal Cert.ByPlaceIdeal.Value

/-- The first two places among the eight. -/
def early (i : Fin 2) : Fin 8 := i.castLE (by decide)

/-- The two largest entries of a row. -/
theorem topK_values (v : FVec Ideal ⟨2, ![1024, 8]⟩ .f32) (h) (t : Fin 1024) (i : Fin 2) :
    ((Host.topK ⟨2, ![1024, 2]⟩ 1 (FloatOps.cmpfTotal .gt) v h).1 (ix2 t i) : EReal)
      = v (ix2 t (place (fun e => v (ix2 t e)) (early i))) := by
  obtain ⟨α, p, hα, hp, hr⟩ : ∃ (α : Fin 8 → (⟨2, ![1024, 8]⟩ : Shape).Idx) (p : Fin 8), (∀ k, α k = ix2 t k) ∧ p = early i ∧
      ((Host.topK ⟨2, ![1024, 2]⟩ 1 (FloatOps.cmpfTotal .gt) v h).1 (ix2 t i) : EReal)
        = v (α (sortedFrom (fun k k' => FloatOps.cmpfTotal .gt (v (α k)) (v (α k')) == 1#1) p)) := by
    refine ⟨fun k => Shape.Idx.along _ 1 k, _, fun k => ?_, ?_, rfl⟩
    · funext a
      match a with
      | 0 => exact Fin.ext (Nat.zero_add _)
      | 1 => rfl
    · exact Fin.ext (Nat.zero_add _)
  obtain rfl : α = fun k => ix2 t k := funext hα
  subst hp
  exact hr

/-- The places of the two largest entries of a row, as words. -/
theorem topK_places (v : FVec Ideal ⟨2, ![1024, 8]⟩ .f32) (h) (t : Fin 1024) (i : Fin 2) :
    (Host.topK ⟨2, ![1024, 2]⟩ 1 (FloatOps.cmpfTotal .gt) v h).2 (ix2 t i)
      = BitVec.ofNat 32 (place (fun e => v (ix2 t e)) (early i)).val := by
  obtain ⟨α, p, hα, hp, hr⟩ : ∃ (α : Fin 8 → (⟨2, ![1024, 8]⟩ : Shape).Idx) (p : Fin 8), (∀ k, α k = ix2 t k) ∧ p = early i ∧
      (Host.topK ⟨2, ![1024, 2]⟩ 1 (FloatOps.cmpfTotal .gt) v h).2 (ix2 t i)
        = BitVec.ofNat 32 (α (sortedFrom (fun k k' => FloatOps.cmpfTotal .gt (v (α k)) (v (α k')) == 1#1) p) 1).val := by
    refine ⟨fun k => Shape.Idx.along _ 1 k, _, fun k => ?_, ?_, rfl⟩
    · funext a
      match a with
      | 0 => exact Fin.ext (Nat.zero_add _)
      | 1 => rfl
    · exact Fin.ext (Nat.zero_add _)
  obtain rfl : α = fun k => ix2 t k := funext hα
  subst hp
  exact hr

/-- The program's products of the experts, in order. -/
def placeProducts (V : Valuation τ sig (Elt Ideal)) (e : Fin 8) : FVec Ideal ⟨2, ![1024, 1024]⟩ .f32 :=
  (![res_main_v18 V, res_main_v42 V, res_main_v66 V, res_main_v90 V, res_main_v114 V, res_main_v138 V, res_main_v162 V,
    res_main_v186 V] : Fin 8 → FVec Ideal ⟨2, ![1024, 1024]⟩ .f32) e

section
variable (x : FVec Ideal ⟨2, ![1024, 1024]⟩ .f32) (r : FVec Ideal ⟨2, ![1024, 8]⟩ .f32)
  (w₁ : FVec Ideal ⟨3, ![8, 1024, 2048]⟩ .f32) (w₂ : FVec Ideal ⟨3, ![8, 2048, 1024]⟩ .f32)
  (V : Valuation τ sig (Elt Ideal))

/-- An expert's product at an index. -/
theorem placeProducts_apply (hx : V (Proc.devRef .tc main_arg0) = x) (h₁ : V (Proc.devRef .tc main_arg2) = w₁)
    (h₂ : V (Proc.devRef .tc main_arg3) = w₂) (e : Fin 8) (t n : Fin 1024) :
    (placeProducts V e (ix2 t n) : EReal)
      = expert (fun d => x (ix2 t d)) (fun d f => w₁ (ix3 e d f)) (fun f n => w₂ (ix3 e f n)) n := by
  subst hx h₁ h₂
  match e with
  | 0 => show res_main_v18 V (ix2 t n) = _; pointwise [res_main_v18]; rfl
  | 1 => show res_main_v42 V (ix2 t n) = _; pointwise [res_main_v42]; rfl
  | 2 => show res_main_v66 V (ix2 t n) = _; pointwise [res_main_v66]; rfl
  | 3 => show res_main_v90 V (ix2 t n) = _; pointwise [res_main_v90]; rfl
  | 4 => show res_main_v114 V (ix2 t n) = _; pointwise [res_main_v114]; rfl
  | 5 => show res_main_v138 V (ix2 t n) = _; pointwise [res_main_v138]; rfl
  | 6 => show res_main_v162 V (ix2 t n) = _; pointwise [res_main_v162]; rfl
  | 7 => show res_main_v186 V (ix2 t n) = _; pointwise [res_main_v186]; rfl

/-- The gates of a token. -/
theorem placeGates_apply (hx : V (Proc.devRef .tc main_arg0) = x) (hr : V (Proc.devRef .tc main_arg1) = r) (t : Fin 1024) :
    (fun e : Fin 8 => (res_main_v0 V (ix2 t e) : EReal)) = fun e => ∑ d, x (ix2 t d) * r (ix2 d e) := by
  subst hx hr
  funext e
  pointwise [res_main_v0]

/-- The weights of the two places. -/
theorem placeWeights_apply (v : FVec Ideal ⟨2, ![1024, 2]⟩ .f32) (hv : res_main_values V = v) (t : Fin 1024) (i : Fin 2) :
    (res_main_v9 V (ix2 t i) : EReal)
      = Ideal.div (Ideal.exp (v (ix2 t i) - Finset.univ.fold max ⊥ fun j => v (ix2 t j)))
          (∑ k, Ideal.exp (v (ix2 t k) - Finset.univ.fold max ⊥ fun j => v (ix2 t j))) := by
  have hf : ∀ (h : (⟨2, ![1024, 2]⟩ : Shape).ReducesTo [1] ⟨1, ![1024]⟩),
      (Finset.univ.filter fun j => h.drop j = ix1 t).fold max (⊥ : EReal) v = Finset.univ.fold max ⊥ fun j => v (ix2 t j) :=
    fun h => h.fold_fiber_r2_a1 _ _ _ _
  unfold res_main_v9 res_main_v5
  rw [hv]
  pointwise
  simp only [ofBits_neg_inf]
  generalize hz : Finset.fold max (⊥ : EReal) v _ = z
  rw [show z = _ from hz.symm.trans (hf _)]

/-- The program's result is the layer's where every token's gates are clear. -/
theorem byPlace_apply (hx : V (Proc.devRef .tc main_arg0) = x) (hr : V (Proc.devRef .tc main_arg1) = r)
    (h₁ : V (Proc.devRef .tc main_arg2) = w₁) (h₂ : V (Proc.devRef .tc main_arg3) = w₂) (t n : Fin 1024)
    (hc : Clear fun e => ∑ d, x (ix2 t d) * r (ix2 d e)) :
    (res_main_v202 V (ix2 t n) : EReal)
      = layer (fun t d => x (ix2 t d)) (fun d e => r (ix2 d e)) (fun e d f => w₁ (ix3 e d f)) (fun e f n => w₂ (ix3 e f n)) t n := by
  have hg := placeGates_apply x r V hx hr t
  have hp (i : Fin 2) : res_main_indices V (ix2 t i) = BitVec.ofNat 32 (place (fun e => ∑ d, x (ix2 t d) * r (ix2 d e)) (early i)).val := by
    rw [← hg]; exact topK_places (res_main_v0 V) _ t i
  have hv (i : Fin 2) : (res_main_values V (ix2 t i) : EReal)
      = (fun e => ∑ d, x (ix2 t d) * r (ix2 d e)) (place (fun e => ∑ d, x (ix2 t d) * r (ix2 d e)) (early i)) := by
    rw [← hg]; exact topK_values (res_main_v0 V) _ t i
  have hw := placeWeights_apply V (res_main_values V) rfl t
  unfold layer
  generalize (fun e => ∑ d, x (ix2 t d) * r (ix2 d e)) = g at hp hv hc
  have hv₀ : (res_main_values V (ix2 t 0) : EReal) = top g := (hv 0).trans (place_zero g)
  have hv₁ : (res_main_values V (ix2 t 1) : EReal) = second g := (hv 1).trans hc.place_one
  have hm : (Finset.univ.fold max (⊥ : EReal) fun j : Fin 2 => (res_main_values V (ix2 t j) : EReal)) = top g := by
    rw [show (fun j : Fin 2 => (res_main_values V (ix2 t j) : EReal)) = fun j => g (place g (early j)) from funext hv]
    exact le_antisymm ((Finset.fold_max_le _).mpr ⟨bot_le, fun j _ => le_top g _⟩)
      ((Finset.le_fold_max _).mpr (Or.inr ⟨0, Finset.mem_univ _, (place_zero g).ge⟩))
  have hw₀ : (res_main_v9 V (ix2 t 0) : EReal) = Ideal.div 1 (1 + ratio g) := by
    rw [hw 0]; simp only [Fin.sum_univ_two, hm, hv₀, hv₁, hc.exp_top]; rfl
  have hw₁ : (res_main_v9 V (ix2 t 1) : EReal) = Ideal.div (ratio g) (1 + ratio g) := by
    rw [hw 1]; simp only [Fin.sum_univ_two, hm, hv₀, hv₁, hc.exp_top]; rfl
  have key (k : Fin 8) (w : BitVec 32) (hk : w = BitVec.ofNat 32 k.val) :
      Scalar.select (IntOp.cmpi .eq (res_main_indices V (ix2 t 0)) w) (placeProducts V k (ix2 t n) * (res_main_v9 V (ix2 t 0) : EReal)) (0 : EReal)
        + Scalar.select (IntOp.cmpi .eq (res_main_indices V (ix2 t 1)) w) (placeProducts V k (ix2 t n) * (res_main_v9 V (ix2 t 1) : EReal)) (0 : EReal)
      = expert (fun d => x (ix2 t d)) (fun d f => w₁ (ix3 k d f)) (fun f n => w₂ (ix3 k f n)) n * weight g k := by
    rw [hp 0, hp 1, pick _ k w hk, pick _ k w hk, hw₀, hw₁, hc.weight_eq, placeProducts_apply x w₁ w₂ V hx h₁ h₂]
    have hne : place g (early 0) ≠ place g (early 1) := fun h => absurd (place_injective g h) (by decide)
    by_cases h₀ : k = place g (early 0)
    · rw [if_pos h₀, if_neg (fun h => hne (h₀.symm.trans h)), if_pos (show k = place g 0 from h₀), add_zero]
    · rw [if_neg h₀, if_neg (show ¬ k = place g 0 from h₀), zero_add]
      by_cases h₁ : k = place g (early 1)
      · rw [if_pos h₁, if_pos (show k = place g 1 from h₁)]
      · rw [if_neg h₁, if_neg (show ¬ k = place g 1 from h₁), mul_zero]
  pointwise [res_main_v202, res_main_v106]
  simp only [id, constant, show (FloatOps.ofBits .f32 0x00000000#32 : Ideal .f32) = (0 : EReal) from Ideal.ofBits_zero_f32]
  rw [Fin.sum_univ_eight, ← key 0 0#32 rfl, ← key 1 1#32 rfl, ← key 2 2#32 rfl, ← key 3 3#32 rfl, ← key 4 4#32 rfl,
    ← key 5 5#32 rfl, ← key 6 6#32 rfl, ← key 7 7#32 rfl]
  simp only [← add_assoc]
  rfl

end

end Cert.Moe

end
-- ==== Proof.lean ====
/-
  The proof of `Cert.Claim`: the kernel's run is written once, over any float values and any reading of the named
  constant; its instances give the two programs' frames and, with the values read at an index, the algebraic claim.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ByPlaceIdeal
public import proofs.«01_k».proof.Proof.Gen.ByPlaceIdeal.Run
public import proofs.«01_k».proof.Proof.Gen.Pre_two_clear_gates
public import proofs.«01_k».proof.Proof.Values
public import proofs.«01_k».proof.Proof.Reference
public import proofs.«01_k».proof.Proof.ByPlace
public import Idealize.ShloMosaic.Adequacy
public import Idealize.ShloMosaic.Init

@[expose] public section

noncomputable section

namespace Cert.Proof

open Idealize.ShloMosaic Idealize.SL.Sem

/-! ## The kernel as printed -/

/-- At the machine's floats a named constant is the word it was printed with. -/
local instance named_bits : Named Bits where
  named _ _ φ w := FloatOps.ofBits φ w

/-- The two kernels' texts differ in the named constant alone, so with that reading their call bodies are one. -/
theorem body_eq : Cert.KernelIdeal.cc0_body (F := Bits) = Cert.Kernel.cc0_body (F := Bits) := rfl

/-- Their definitions are one too. -/
theorem defs_eq : Cert.KernelIdeal.defs (F := Bits) = Cert.Kernel.defs (F := Bits) := by
  unfold Cert.KernelIdeal.defs Cert.Kernel.defs
  congr 1
  unfold Cert.KernelIdeal.defs₀ Cert.Kernel.defs₀
  refine congrArg Defs.onTc (funext fun l => funext fun a => ?_)
  match l, a with
  | 0, (t, s) => rfl
  | ⟨_ + 1, h⟩, _ => exact absurd h (Nat.not_lt.2 (Nat.le_add_left _ _))

/-- The kernel as printed terminates without fault, its arguments end unchanged and every counter ends at zero. -/
theorem frame_kernel : Cert.quiescent_Kernel := fun m ρ _ => by
  have h := Cert.Moe.run_main (F := Bits) m ρ
  rw [defs_eq] at h
  exact (θ_run Cert.Kernel.defs _ _).mono (fun _ h => ⟨fun c => ⟨((h.1 c).1 0).trans (Cert.Moe.finalA_x (F := Bits) m ρ c),
    ((h.1 c).1 1).trans (Cert.Moe.finalA_r (F := Bits) m ρ c), (h.1 c).2.1, (h.1 c).2.2⟩, h.2⟩) h

/-! ## The idealized programs -/

/-- The idealized kernel's frame: the same run at the ideal floats. -/
theorem frame_kernelIdeal : Cert.quiescent_KernelIdeal := fun m ρ _ =>
  (θ_run Cert.KernelIdeal.defs _ _).mono (fun _ h => ⟨fun c => ⟨((h.1 c).1 0).trans (Cert.Moe.finalA_x m ρ c),
    ((h.1 c).1 1).trans (Cert.Moe.finalA_r m ρ c), (h.1 c).2.1, (h.1 c).2.2⟩, h.2⟩) (Cert.Moe.run_main (F := Ideal) m ρ)

/-- The reference's frame: it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The one rewrite: the printed constant is given a name, which reads −∞. -/
theorem preserves : Cert.preserves_Kernel_KernelIdeal := by
  exact ⟨rfl, fun _ => rfl, rfl⟩

/-- The result window's array ends at the device's result. -/
theorem final_out (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) (t : Fin 512) (n : Fin 1024) :
    (Cert.Moe.finalA m ρ c 2 (ix2 t n) : EReal) = Cert.Moe.res m c (ix2 t n) := by
  unfold Cert.Moe.finalA
  refine congrFun ((Cert.Moe.dats m ρ 0 c).arrAt_eq_of_after_last 2 Cert.KernelIdeal.Gen.t0_0 (by decide +kernel) (Cert.Moe.res m c) fun j => ?_) _
  blk_simp
  rfl

/-- Each device's result is its block of the reference's. -/
theorem algebraic : Cert.algebraic_KernelIdeal_ReferenceIdeal := by
  intro m g m' g' _ hargs
  have hb : Cert.Moe.Blocks m (m' ((0 : Dev Cert.ReferenceIdeal.nD).tc.loc Cert.ReferenceIdeal.main_arg0))
      (m' ((0 : Dev Cert.ReferenceIdeal.nD).tc.loc Cert.ReferenceIdeal.main_arg1))
      (m' ((0 : Dev Cert.ReferenceIdeal.nD).tc.loc Cert.ReferenceIdeal.main_arg2))
      (m' ((0 : Dev Cert.ReferenceIdeal.nD).tc.loc Cert.ReferenceIdeal.main_arg3)) :=
    { x := fun c t d => (Cert.Moe.xB_apply m c t d).trans ((congrFun (hargs c).1 _).trans (Cert.Moe.block_x _ c t d))
      r := fun c d e => (Cert.Moe.rB_apply m c d e).trans ((congrFun (hargs c).2.1 _).trans (Cert.Moe.block_r _ c d e))
      w₁ := fun c e d f => (Cert.Moe.w1_apply m c e d f).trans ((congrFun (hargs c).2.2.1 _).trans (Cert.Moe.block_w1 _ c e d f))
      w₂ := fun c e f n => (Cert.Moe.w2_apply m c e f n).trans ((congrFun (hargs c).2.2.2 _).trans (Cert.Moe.block_w2 _ c e f n)) }
  refine ⟨Cert.ReferenceIdeal.Value.res_out0 m' 0, (θ_run Cert.KernelIdeal.defs _ _).mono (fun _ h c =>
      ⟨((h.1 c).1 2).trans ?_, ((h.1 c).1 0).trans (Cert.Moe.finalA_x m g c), ((h.1 c).1 1).trans (Cert.Moe.finalA_r m g c), (h.1 c).2.1, (h.1 c).2.2⟩)
      (Cert.Moe.run_main (F := Ideal) m g),
    (θ_run Cert.ReferenceIdeal.defs _ _).mono (fun _ h => h 0) (Cert.ReferenceIdeal.Value.run (F := Ideal) m' g')⟩
  funext i
  obtain ⟨t, n, rfl⟩ : ∃ (t : Fin 512) (n : Fin 1024), i = ix2 t n := ⟨i 0, i 1, by funext a; match a with | 0 => rfl | 1 => rfl⟩
  refine (final_out m g c t n).trans ((Cert.Moe.res_eq hb c t n).trans ?_)
  exact (Cert.Moe.reference_apply m' (Cert.Moe.row c t) n).symm.trans (Cert.Moe.block_x (Cert.ReferenceIdeal.Value.res_out0 m' 0) c t n).symm

/-! ## The reference against the program that sorts -/

/-- The frame of the program that sorts: it declares no semaphore. -/
theorem frame_byPlace : Cert.quiescent_ByPlaceIdeal := fun m ρ _ =>
  (θ_run Cert.ByPlaceIdeal.defs _ _).mono (fun r h => ⟨fun c => (h c).2, sem_eq_zero_of_no_sems (by decide) r.2⟩)
    (Cert.ByPlaceIdeal.Value.run (F := Ideal) m ρ)

/-- The reference's frame under the precondition, which it does not need. -/
theorem frame_reference_clear : Cert.quiescent_ReferenceIdeal_pre_two_clear_gates := fun m ρ _ => frame_reference m ρ trivial

/-- Where every token's gates are clear the reference's result is the sorting program's. -/
theorem algebraic_byPlace : Cert.algebraic_ReferenceIdeal_ByPlaceIdeal_pre_two_clear_gates := by
  intro m g m' g' hpre hargs
  refine ⟨fun c => Cert.ReferenceIdeal.Value.res_out0 m c,
    (θ_run Cert.ReferenceIdeal.defs _ _).mono (fun _ h => h) (Cert.ReferenceIdeal.Value.run (F := Ideal) m g),
    (θ_run Cert.ByPlaceIdeal.defs _ _).mono (fun _ h c => ⟨(h c).1.trans ?_, (h c).2⟩) (Cert.ByPlaceIdeal.Value.run (F := Ideal) m' g')⟩
  obtain rfl : c = 0 := Subsingleton.elim _ _
  funext i
  obtain ⟨t, n, rfl⟩ : ∃ (t n : Fin 1024), i = ix2 t n := ⟨i 0, i 1, by funext a; match a with | 0 => rfl | 1 => rfl⟩
  obtain ⟨h₀, h₁, h₂, h₃⟩ := hargs 0
  exact (Cert.Moe.byPlace_apply _ _ _ _ _ h₀ h₁ h₂ h₃ t n (Cert.Moe.clear_of_pre _ _ _ _ (hpre 0) t)).trans
    (Cert.Moe.reference_apply m t n).symm

/-- Every claim of the certificate. -/
theorem claim : Cert.Claim :=
  ⟨Cert.Kernel.Gen.facts, Cert.KernelIdeal.Gen.facts, Cert.ReferenceIdeal.Gen.facts, Cert.ByPlaceIdeal.Gen.facts,
    Cert.Pre_two_clear_gates.Gen.facts, frame_kernel, frame_kernelIdeal, frame_reference, frame_reference_clear, frame_byPlace,
    preserves, algebraic, algebraic_byPlace⟩

end Cert.Proof

end
